-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_u [hPre_finite_u : Cert.Pre_finite_u.Facts] (m : (ℓ : Loc Cert.KernelIdeal.nD Cert.KernelIdeal.τ Cert.KernelIdeal.sig) → Buf (Elt Ideal) ℓ) : Prop :=
  ∀ c : Dev Cert.KernelIdeal.nD,
    (Cert.Pre_finite_u.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_u [hPre_finite_u : Cert.Pre_finite_u.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_u.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_u [hKernelIdeal : Cert.KernelIdeal.Facts] [hPre_finite_u : Cert.Pre_finite_u.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_u m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_u [hReferenceIdeal : Cert.ReferenceIdeal.Facts] [hPre_finite_u : Cert.Pre_finite_u.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_u m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite_u [hKernelIdeal : Cert.KernelIdeal.Facts] [hReferenceIdeal : Cert.ReferenceIdeal.Facts] [hPre_finite_u : Cert.Pre_finite_u.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_u m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_u : Cert.Pre_finite_u.Facts),
    quiescent_Kernel (hKernel := hKernel)
    ∧ quiescent_KernelIdeal (hKernelIdeal := hKernelIdeal)
    ∧ quiescent_KernelIdeal_pre_finite_u (hKernelIdeal := hKernelIdeal) (hPre_finite_u := hPre_finite_u)
    ∧ quiescent_ReferenceIdeal (hReferenceIdeal := hReferenceIdeal)
    ∧ quiescent_ReferenceIdeal_pre_finite_u (hReferenceIdeal := hReferenceIdeal) (hPre_finite_u := hPre_finite_u)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_u (hKernelIdeal := hKernelIdeal) (hReferenceIdeal := hReferenceIdeal) (hPre_finite_u := hPre_finite_u)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_u.lean ====
abbrev S4x8192x9216 : Shape := ⟨3, ![4, 8192, 9216]⟩
abbrev S_ : Shape := ⟨0, ![]⟩

class Facts : Prop where
  bitsLt_bf16_f32 : FTy.bits .bf16 < FTy.bits .f32
  bcast_S_S4x8192x9216 : S_.BroadcastsInDim S4x8192x9216 (![] : Fin 0 → Fin S4x8192x9216.rank)
  reducesTo_S4x8192x9216_S_d0_1_2 : S4x8192x9216.ReducesTo [0, 1, 2] S_
  h_S_ : 0 < S_.numel

variable [Facts]

def fn {F : FTy → Type} [FloatOps F] (main_arg0 : FVec F S4x8192x9216 .bf16) : IVec S_ 1 :=
  let main_v0 : FVec F S4x8192x9216 .f32 := (extf .f32 · bitsLt_bf16_f32) main_arg0
  let main_v1 : FVec F S4x8192x9216 .f32 := Host.absf main_v0
  let main_cst : FVec F S_ .f32 := constant S_ .f32 0x7F800000#32
  let main_v2 : FVec F S4x8192x9216 .f32 := broadcastInDim S4x8192x9216 ![] bcast_S_S4x8192x9216 main_cst
  let main_v3 : IVec S4x8192x9216 1 := cmpf .olt main_v1 main_v2
  let main_c : IVec S_ 1 := constantI S_ 1 1#1
  let main_v4 : IVec S_ 1 := (fun x v => Host.reduce IntOp.andi x v reducesTo_S4x8192x9216_S_d0_1_2 h_S_) main_v3 main_c
  main_v4
-- ==== Kernel.lean ====
abbrev S4x8192x9216 : Shape := ⟨3, ![4, 8192, 9216]⟩
abbrev S256x256 : Shape := ⟨2, ![256, 256]⟩
abbrev S4x8192x1024 : Shape := ⟨3, ![4, 8192, 1024]⟩
abbrev S1x256x128 : Shape := ⟨3, ![1, 256, 128]⟩
abbrev S1x8192x128 : Shape := ⟨3, ![1, 8192, 128]⟩
abbrev S256x128 : Shape := ⟨2, ![256, 128]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S4x8192x9216, .bf16⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .bf16⟩
  | .hbm, ⟨5, _⟩ => ⟨S4x8192x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S256x256, .bf16⟩
  | .local _ .vmem, ⟨9, _⟩ => ⟨S1x256x128, .bf16⟩
  | .local _ .vmem, ⟨10, _⟩ => ⟨S1x256x128, .bf16⟩
  | _, _ => ⟨S4x8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 8, 32], ![false, false, false]⟩

def k0_mult1 (i : grid0.Coords) : BitVec 32 :=
  let arg2 : BitVec 32 := BitVec.ofNat 32 (i 2).val
  let c256_i32 : BitVec 32 := 256#32
  let v4 : BitVec 32 := Scalar.muli arg2 c256_i32
  v4
def k0_off1 (i : grid0.Coords) : Fin 3 → Nat :=
  let c0_4 : Index := 0#32
  let arg2 : BitVec 32 := BitVec.ofNat 32 (i 2).val
  let c256_i32 : BitVec 32 := 256#32
  let v4 : BitVec 32 := Scalar.muli arg2 c256_i32
  let v5 : BitVec 32 := v4
  let v6 : Index := Scalar.indexCast v5
  let c0_5 : Index := 0#32
  ![0, v6.toNat, 0]
@[reducible] def k0_t1_loop (i : grid0.Coords) : Scf.Loop 32 :=
  let c0_i32 : BitVec 32 := 0#32
  let arg2 : BitVec 32 := BitVec.ofNat 32 (i 2).val
  let v42 : BitVec 32 := Scalar.subi arg2 c0_i32
  let c1_i32 : BitVec 32 := 1#32
  let v44 : BitVec 32 := Scalar.divsi v42 c1_i32
  let v45 : BitVec 32 := Scalar.muli v44 c1_i32
  let v46 : BitVec 32 := Scalar.addi c0_i32 v45
  let c1_i32_16 : BitVec 32 := 1#32
  ⟨c0_i32, v46, c1_i32_16⟩
def k0_mult2 (i : grid0.Coords) (k0_t1 : Fin (k0_t1_loop i).trips) : BitVec 32 :=
  let arg2 : BitVec 32 := BitVec.ofNat 32 (i 2).val
  let c1_i32_27 : BitVec 32 := 1#32
  let v65 : BitVec 32 := Scalar.subi arg2 c1_i32_27
  let c0_i32 : BitVec 32 := 0#32
  let c1_i32_16 : BitVec 32 := 1#32
  let arg9 : BitVec 32 := Scf.iv c0_i32 c1_i32_16 k0_t1
  let v66 : BitVec 32 := Scalar.subi v65 arg9
  let c256_i32_28 : BitVec 32 := 256#32
  let v67 : BitVec 32 := Scalar.muli v66 c256_i32_28
  v67
def k0_off2 (i : grid0.Coords) (k0_t1 : Fin (k0_t1_loop i).trips) : Fin 3 → Nat :=
  let c0_29 : Index := 0#32
  let arg2 : BitVec 32 := BitVec.ofNat 32 (i 2).val
  let c1_i32_27 : BitVec 32 := 1#32
  let v65 : BitVec 32 := Scalar.subi arg2 c1_i32_27
  let c0_i32 : BitVec 32 := 0#32
  let c1_i32_16 : BitVec 32 := 1#32
  let arg9 : BitVec 32 := Scf.iv c0_i32 c1_i32_16 k0_t1
  let v66 : BitVec 32 := Scalar.subi v65 arg9
  let c256_i32_28 : BitVec 32 := 256#32
  let v67 : BitVec 32 := Scalar.muli v66 c256_i32_28
  let v68 : BitVec 32 := v67
  let v69 : Index := Scalar.indexCast v68
  let c0_30 : Index := 0#32
  ![0, v69.toNat, 0]
@[reducible] def k0_t2_loop (i : grid0.Coords) : Scf.Loop 32 :=
  let c0_i32 : BitVec 32 := 0#32
  let arg2 : BitVec 32 := BitVec.ofNat 32 (i 2).val
  let v42 : BitVec 32 := Scalar.subi arg2 c0_i32
  let c1_i32 : BitVec 32 := 1#32
  let v44 : BitVec 32 := Scalar.divsi v42 c1_i32
  let v45 : BitVec 32 := Scalar.muli v44 c1_i32
  let v46 : BitVec 32 := Scalar.addi c0_i32 v45
  let v43 : BitVec 32 := Scalar.addi c0_i32 v42
  let c1_i32_17 : BitVec 32 := 1#32
  ⟨v46, v43, c1_i32_17⟩
def k0_mult3 (i : grid0.Coords) (k0_t2 : Fin (k0_t2_loop i).trips) : BitVec 32 :=
  let arg2 : BitVec 32 := BitVec.ofNat 32 (i 2).val
  let c1_i32_27 : BitVec 32 := 1#32
  let v65 : BitVec 32 := Scalar.subi arg2 c1_i32_27
  let c0_i32 : BitVec 32 := 0#32
  let v42 : BitVec 32 := Scalar.subi arg2 c0_i32
  let c1_i32 : BitVec 32 := 1#32
  let v44 : BitVec 32 := Scalar.divsi v42 c1_i32
  let v45 : BitVec 32 := Scalar.muli v44 c1_i32
  let v46 : BitVec 32 := Scalar.addi c0_i32 v45
  let c1_i32_17 : BitVec 32 := 1#32
  let arg9 : BitVec 32 := Scf.iv v46 c1_i32_17 k0_t2
  let v66 : BitVec 32 := Scalar.subi v65 arg9
  let c256_i32_28 : BitVec 32 := 256#32
  let v67 : BitVec 32 := Scalar.muli v66 c256_i32_28
  v67
def k0_off3 (i : grid0.Coords) (k0_t2 : Fin (k0_t2_loop i).trips) : Fin 3 → Nat :=
  let c0_29 : Index := 0#32
  let arg2 : BitVec 32 := BitVec.ofNat 32 (i 2).val
  let c1_i32_27 : BitVec 32 := 1#32
  let v65 : BitVec 32 := Scalar.subi arg2 c1_i32_27
  let c0_i32 : BitVec 32 := 0#32
  let v42 : BitVec 32 := Scalar.subi arg2 c0_i32
  let c1_i32 : BitVec 32 := 1#32
  let v44 : BitVec 32 := Scalar.divsi v42 c1_i32
  let v45 : BitVec 32 := Scalar.muli v44 c1_i32
  let v46 : BitVec 32 := Scalar.addi c0_i32 v45
  let c1_i32_17 : BitVec 32 := 1#32
  let arg9 : BitVec 32 := Scf.iv v46 c1_i32_17 k0_t2
  let v66 : BitVec 32 := Scalar.subi v65 arg9
  let c256_i32_28 : BitVec 32 := 256#32
  let v67 : BitVec 32 := Scalar.muli v66 c256_i32_28
  let v68 : BitVec 32 := v67
  let v69 : Index := Scalar.indexCast v68
  let c0_30 : Index := 0#32
  ![0, v69.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8192x9216 : Shape := ⟨3, ![4, 8192, 9216]⟩
abbrev S4x8192x1024 : Shape := ⟨3, ![4, 8192, 1024]⟩
abbrev S4x8192x8x128 : Shape := ⟨4, ![4, 8192, 8, 128]⟩
abbrev S4x8x8192x128 : Shape := ⟨4, ![4, 8, 8192, 128]⟩
abbrev S4x8x8192x8192 : Shape := ⟨4, ![4, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x9216, .bf16⟩
  | .hbm, ⟨1, _⟩ => ⟨S4x8192x9216, .f32⟩
  | .hbm, ⟨2, _⟩ => ⟨S4x8192x1024, .f32⟩
  | .hbm, ⟨3, _⟩ => ⟨S4x8192x8x128, .f32⟩
  | .hbm, ⟨4, _⟩ => ⟨S4x8x8192x128, .f32⟩
  | .hbm, ⟨5, _⟩ => ⟨S4x8192x1024, .f32⟩
  | .hbm, ⟨6, _⟩ => ⟨S4x8192x8x128, .f32⟩
  | .hbm, ⟨7, _⟩ => ⟨S4x8x8192x128, .f32⟩
  | .hbm, ⟨8, _⟩ => ⟨S4x8192x1024, .f32⟩
  | .hbm, ⟨9, _⟩ => ⟨S4x8192x8x128, .f32⟩
  | .hbm, ⟨10, _⟩ => ⟨S4x8x8192x128, .f32⟩
  | .hbm, ⟨11, _⟩ => ⟨S4x8192x1024, .f32⟩
  | .hbm, ⟨12, _⟩ => ⟨S4x8x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S4x8x8192x8192, .f32⟩
  | .hbm, ⟨21, _⟩ => ⟨S4x8x8192x8192, .f32⟩
  | .hbm, ⟨22, _⟩ => ⟨S_, .f32⟩
  | .hbm, ⟨23, _⟩ => ⟨S4x8x8192x8192, .f32⟩
  | .hbm, ⟨24, _⟩ => ⟨S4x8x8192x8192, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .i1⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .f32⟩
  | .hbm, ⟨36, _⟩ => ⟨S4x8x8192x8192, .f32⟩
  | .hbm, ⟨37, _⟩ => ⟨S_, .f32⟩
  | .hbm, ⟨38, _⟩ => ⟨S_, .f32⟩
  | .hbm, ⟨39, _⟩ => ⟨S4x8x8192x8192, .i1⟩
  | .hbm, ⟨40, _⟩ => ⟨S4x8x8192x8192, .f32⟩
  | .hbm, ⟨41, _⟩ => ⟨S4x8x8192x8192, .f32⟩
  | .hbm, ⟨42, _⟩ => ⟨S_, .f32⟩
  | .hbm, ⟨43, _⟩ => ⟨S_, .f32⟩
  | .hbm, ⟨44, _⟩ => ⟨S4x8x8192x8192, .f32⟩
  | .hbm, ⟨45, _⟩ => ⟨S4x8x8192x8192, .f32⟩
  | .hbm, ⟨46, _⟩ => ⟨S4x8x8192x8192, .f32⟩
  | .hbm, ⟨47, _⟩ => ⟨S_, .f32⟩
  | .hbm, ⟨48, _⟩ => ⟨S4x8x8192x8192, .f32⟩
  | .hbm, ⟨49, _⟩ => ⟨S4x8x8192x8192, .f32⟩
  | .hbm, ⟨50, _⟩ => ⟨S4x8x8192x8192, .f32⟩
  | .hbm, ⟨51, _⟩ => ⟨S4x8x8192x8192, .f32⟩
  | .hbm, ⟨52, _⟩ => ⟨S4x8x8192x8192, .i1⟩
  | .hbm, ⟨53, _⟩ => ⟨S4x8x8192x8192, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S4x8x8192x8192, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S_, .f32⟩
  | .hbm, ⟨65, _⟩ => ⟨S_, .f32⟩
  | .hbm, ⟨66, _⟩ => ⟨S4x8x8192x8192, .i1⟩
  | .hbm, ⟨67, _⟩ => ⟨S4x8x8192x8192, .f32⟩
  | .hbm, ⟨68, _⟩ => ⟨S4x8x8192x8192, .f32⟩
  | .hbm, ⟨69, _⟩ => ⟨S4x8x8192x128, .f32⟩
  | .hbm, ⟨70, _⟩ => ⟨S4x8192x8x128, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S_, .f32⟩
  | .hbm, ⟨75, _⟩ => ⟨S4x8192x1024, .f32⟩
  | .hbm, ⟨76, _⟩ => ⟨S4x8192x1024, .f32⟩
  | .hbm, ⟨77, _⟩ => ⟨S_, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S4x8192x1024, .bf16⟩
  | _, _ => ⟨S4x8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v20 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_call2_cst : Ref sig .tc := ⟨.hbm, 42, rfl⟩
abbrev main_call2_v0 : Ref sig .tc := ⟨.hbm, 43, rfl⟩
abbrev main_v22 : Ref sig .tc := ⟨.hbm, 44, rfl⟩
abbrev main_v23 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_call5_v0 : Ref sig .tc := ⟨.hbm, 72, rfl⟩
abbrev main_call5_v1 : Ref sig .tc := ⟨.hbm, 73, rfl⟩
abbrev main_call5_cst : Ref sig .tc := ⟨.hbm, 74, rfl⟩
abbrev main_call5_v2 : Ref sig .tc := ⟨.hbm, 75, rfl⟩
abbrev main_call5_v3 : Ref sig .tc := ⟨.hbm, 76, rfl⟩
abbrev main_call5_cst_0 : Ref sig .tc := ⟨.hbm, 77, rfl⟩
abbrev main_call5_v4 : Ref sig .tc := ⟨.hbm, 78, rfl⟩
abbrev main_call5_v5 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x4096 : Shape := ⟨2, ![1024, 4096]⟩
abbrev S4x512x512 : Shape := ⟨3, ![4, 512, 512]⟩
abbrev S2048 : Shape := ⟨1, ![2048]⟩
abbrev S2048x1024 : Shape := ⟨2, ![2048, 1024]⟩
abbrev S1x1024 : Shape := ⟨2, ![1, 1024]⟩
abbrev S1024x2048 : Shape := ⟨2, ![1024, 2048]⟩
abbrev S1x2048 : Shape := ⟨2, ![1, 2048]⟩
abbrev S1x512x1024 : Shape := ⟨3, ![1, 512, 1024]⟩
abbrev S16x2048 : Shape := ⟨2, ![16, 2048]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S16x512 : Shape := ⟨2, ![16, 512]⟩
abbrev S528x512 : Shape := ⟨2, ![528, 512]⟩
abbrev S1x512x512 : Shape := ⟨3, ![1, 512, 512]⟩
abbrev S1x512 : Shape := ⟨2, ![1, 512]⟩

abbrev nBuf : Space → Nat
  | .hbm => 16
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4x512x512, .f32⟩
  | .hbm, ⟨5, _⟩ => ⟨S2048, .f32⟩
  | .hbm, ⟨6, _⟩ => ⟨S2048x1024, .f32⟩
  | .hbm, ⟨7, _⟩ => ⟨S1024x4096, .bf16⟩
  | .hbm, ⟨8, _⟩ => ⟨S1x1024, .f32⟩
  | .hbm, ⟨9, _⟩ => ⟨S1024x2048, .bf16⟩
  | .hbm, ⟨10, _⟩ => ⟨S1024x2048, .bf16⟩
  | .hbm, ⟨11, _⟩ => ⟨S4x512x512, .bf16⟩
  | .hbm, ⟨12, _⟩ => ⟨S1x2048, .f32⟩
  | .hbm, ⟨13, _⟩ => ⟨S2048x1024, .bf16⟩
  | .hbm, ⟨14, _⟩ => ⟨S1x1024, .f32⟩
  | .hbm, ⟨15, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S4x512x512, .bf16⟩
  | .local _ .vmem, ⟨6, _⟩ => ⟨S1x2048, .f32⟩
  | .local _ .vmem, ⟨7, _⟩ => ⟨S2048x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S16x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x8192x1024 : Shape := ⟨3, ![4, 8192, 1024]⟩
abbrev S1024 : Shape := ⟨1, ![1024]⟩
abbrev S1024x4096 : Shape := ⟨2, ![1024, 4096]⟩
abbrev S4x512x512 : Shape := ⟨3, ![4, 512, 512]⟩
abbrev S2048 : Shape := ⟨1, ![2048]⟩
abbrev S2048x1024 : Shape := ⟨2, ![2048, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S4x8192x2048 : Shape := ⟨3, ![4, 8192, 2048]⟩
abbrev S8192 : Shape := ⟨1, ![8192]⟩
abbrev S4x8192x512 : Shape := ⟨3, ![4, 8192, 512]⟩
abbrev S1x8192x1 : Shape := ⟨3, ![1, 8192, 1]⟩
abbrev S4x8192x1x512 : Shape := ⟨4, ![4, 8192, 1, 512]⟩
abbrev S4x8192x4x512 : Shape := ⟨4, ![4, 8192, 4, 512]⟩
abbrev S4x512x4x8192 : Shape := ⟨4, ![4, 512, 4, 8192]⟩
abbrev S1x1x2048 : Shape := ⟨3, ![1, 1, 2048]⟩

abbrev nBuf : Space → Nat
  | .hbm => 126
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4x512x512, .f32⟩
  | .hbm, ⟨5, _⟩ => ⟨S2048, .f32⟩
  | .hbm, ⟨6, _⟩ => ⟨S2048x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x4096, .f32⟩
  | .hbm, ⟨24, _⟩ => ⟨S4x8192x2048, .f32⟩
  | .hbm, ⟨25, _⟩ => ⟨S4x8192x2048, .f32⟩
  | .hbm, ⟨26, _⟩ => ⟨S8192, .i32⟩
  | .hbm, ⟨27, _⟩ => ⟨S4x8192x512, .f32⟩
  | .hbm, ⟨28, _⟩ => ⟨S_, .f32⟩
  | .hbm, ⟨29, _⟩ => ⟨S_, .f32⟩
  | .hbm, ⟨30, _⟩ => ⟨S4x8192x512, .f32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .f32⟩
  | .hbm, ⟨38, _⟩ => ⟨S1x8192x1, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S4x8192x512, .f32⟩
  | .hbm, ⟨43, _⟩ => ⟨S_, .f32⟩
  | .hbm, ⟨44, _⟩ => ⟨S_, .f32⟩
  | .hbm, ⟨45, _⟩ => ⟨S4x8192x512, .f32⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .f32⟩
  | .hbm, ⟨53, _⟩ => ⟨S1x8192x1, .f32⟩
  | .hbm, ⟨54, _⟩ => ⟨S4x8192x512, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S_, .f32⟩
  | .hbm, ⟨59, _⟩ => ⟨S_, .f32⟩
  | .hbm, ⟨60, _⟩ => ⟨S4x8192x512, .f32⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .f32⟩
  | .hbm, ⟨68, _⟩ => ⟨S1x8192x1, .f32⟩
  | .hbm, ⟨69, _⟩ => ⟨S4x8192x512, .f32⟩
  | .hbm, ⟨70, _⟩ => ⟨S4x8192x512, .f32⟩
  | .hbm, ⟨71, _⟩ => ⟨S4x8192x512, .f32⟩
  | .hbm, ⟨72, _⟩ => ⟨S4x8192x512, .f32⟩
  | .hbm, ⟨73, _⟩ => ⟨S_, .f32⟩
  | .hbm, ⟨74, _⟩ => ⟨S_, .f32⟩
  | .hbm, ⟨75, _⟩ => ⟨S4x8192x512, .f32⟩
  | .hbm, ⟨76, _⟩ => ⟨S_, .i32⟩
  | .hbm, ⟨77, _⟩ => ⟨S8192, .i32⟩
  | .hbm, ⟨78, _⟩ => ⟨S8192, .i32⟩
  | .hbm, ⟨79, _⟩ => ⟨S_, .i32⟩
  | .hbm, ⟨80, _⟩ => ⟨S8192, .i32⟩
  | .hbm, ⟨81, _⟩ => ⟨S8192, .i32⟩
  | .hbm, ⟨82, _⟩ => ⟨S8192, .f32⟩
  | .hbm, ⟨83, _⟩ => ⟨S1x8192x1, .f32⟩
  | .hbm, ⟨84, _⟩ => ⟨S4x8192x512, .f32⟩
  | .hbm, ⟨85, _⟩ => ⟨S4x8192x512, .f32⟩
  | .hbm, ⟨86, _⟩ => ⟨S4x8192x512, .f32⟩
  | .hbm, ⟨87, _⟩ => ⟨S4x8192x1x512, .f32⟩
  | .hbm, ⟨88, _⟩ => ⟨S4x8192x1x512, .f32⟩
  | .hbm, ⟨89, _⟩ => ⟨S4x8192x1x512, .f32⟩
  | .hbm, ⟨90, _⟩ => ⟨S4x8192x1x512, .f32⟩
  | .hbm, ⟨91, _⟩ => ⟨S4x8192x4x512, .f32⟩
  | .hbm, ⟨92, _⟩ => ⟨S4x512x4x8192, .f32⟩
  | .hbm, ⟨93, _⟩ => ⟨S4x8192x4x512, .f32⟩
  | .hbm, ⟨94, _⟩ => ⟨S4x8192x2048, .f32⟩
  | .hbm, ⟨95, _⟩ => ⟨S1x1x2048, .f32⟩
  | .hbm, ⟨96, _⟩ => ⟨S4x8192x2048, .f32⟩
  | .hbm, ⟨97, _⟩ => ⟨S4x8192x2048, .f32⟩
  | .hbm, ⟨98, _⟩ => ⟨S4x8192x2048, .f32⟩
  | .hbm, ⟨99, _⟩ => ⟨S4x8192x2048, .f32⟩
  | .hbm, ⟨100, _⟩ => ⟨S_, .f32⟩
  | .hbm, ⟨101, _⟩ => ⟨S4x8192x2048, .f32⟩
  | .hbm, ⟨102, _⟩ => ⟨S4x8192x2048, .f32⟩
  | .hbm, ⟨103, _⟩ => ⟨S_, .f32⟩
  | .hbm, ⟨104, _⟩ => ⟨S4x8192x2048, .f32⟩
  | .hbm, ⟨105, _⟩ => ⟨S4x8192x2048, .f32⟩
  | .hbm, ⟨106, _⟩ => ⟨S4x8192x2048, .f32⟩
  | .hbm, ⟨107, _⟩ => ⟨S4x8192x2048, .f32⟩
  | .hbm, ⟨108, _⟩ => ⟨S4x8192x1024, .f32⟩
  | .hbm, ⟨109, _⟩ => ⟨S4x8192x1024, .f32⟩
  | .hbm, ⟨110, _⟩ => ⟨S_, .f32⟩
  | .hbm, ⟨111, _⟩ => ⟨S4x8192, .f32⟩
  | .hbm, ⟨112, _⟩ => ⟨S4x8192x1, .f32⟩
  | .hbm, ⟨113, _⟩ => ⟨S_, .f32⟩
  | .hbm, ⟨114, _⟩ => ⟨S4x8192x1, .f32⟩
  | .hbm, ⟨115, _⟩ => ⟨S4x8192x1, .f32⟩
  | .hbm, ⟨116, _⟩ => ⟨S_, .f32⟩
  | .hbm, ⟨117, _⟩ => ⟨S4x8192x1, .f32⟩
  | .hbm, ⟨118, _⟩ => ⟨S4x8192x1, .f32⟩
  | .hbm, ⟨119, _⟩ => ⟨S4x8192x1, .f32⟩
  | .hbm, ⟨120, _⟩ => ⟨S4x8192x1024, .f32⟩
  | .hbm, ⟨121, _⟩ => ⟨S4x8192x1024, .f32⟩
  | .hbm, ⟨122, _⟩ => ⟨S1x1x1024, .f32⟩
  | .hbm, ⟨123, _⟩ => ⟨S4x8192x1024, .f32⟩
  | .hbm, ⟨124, _⟩ => ⟨S4x8192x1024, .f32⟩
  | .hbm, ⟨125, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]
-- ==== Kernel3.lean ====
abbrev S32768x1024 : Shape := ⟨2, ![32768, 1024]⟩
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x1024, .f32⟩
  | .hbm, ⟨3, _⟩ => ⟨S32768x1024, .f32⟩
  | .hbm, ⟨4, _⟩ => ⟨S1024, .f32⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S2048x1024 : Shape := ⟨2, ![2048, 1024]⟩
abbrev S1024 : Shape := ⟨1, ![1024]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x1024, .f32⟩
  | .hbm, ⟨3, _⟩ => ⟨S32768x1024, .f32⟩
  | .hbm, ⟨4, _⟩ => ⟨S1024, .f32⟩
  | .hbm, ⟨5, _⟩ => ⟨S32768x1024, .f32⟩
  | .hbm, ⟨6, _⟩ => ⟨S32768x1024, .f32⟩
  | .hbm, ⟨7, _⟩ => ⟨S32768x2048, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x9224 : Shape := ⟨2, ![1024, 9224]⟩
abbrev S4 : Shape := ⟨1, ![4]⟩
abbrev S1024x5120 : Shape := ⟨2, ![1024, 5120]⟩
abbrev S1024x4096 : Shape := ⟨2, ![1024, 4096]⟩
abbrev S1024x9216 : Shape := ⟨2, ![1024, 9216]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S1x9216 : Shape := ⟨2, ![1, 9216]⟩
abbrev S1 : Shape := ⟨1, ![1]⟩
abbrev S1x1024 : Shape := ⟨2, ![1, 1024]⟩
abbrev S32768x9216 : Shape := ⟨2, ![32768, 9216]⟩
abbrev S32768x128 : Shape := ⟨2, ![32768, 128]⟩
abbrev S1024x1024 : Shape := ⟨2, ![1024, 1024]⟩
abbrev S1024x1 : Shape := ⟨2, ![1024, 1]⟩

abbrev nBuf : Space → Nat
  | .hbm => 29
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9224, .f32⟩
  | .hbm, ⟨3, _⟩ => ⟨S4, .f32⟩
  | .hbm, ⟨4, _⟩ => ⟨S4, .f32⟩
  | .hbm, ⟨5, _⟩ => ⟨S1024x5120, .f32⟩
  | .hbm, ⟨6, _⟩ => ⟨S1024x4096, .f32⟩
  | .hbm, ⟨7, _⟩ => ⟨S1024x9216, .f32⟩
  | .hbm, ⟨8, _⟩ => ⟨S1024x9216, .bf16⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S8, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S1x9216, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S1x1024, .f32⟩
  | .hbm, ⟨25, _⟩ => ⟨S1x9216, .f32⟩
  | .hbm, ⟨26, _⟩ => ⟨S1x1024, .f32⟩
  | .hbm, ⟨27, _⟩ => ⟨S32768x9216, .bf16⟩
  | .hbm, ⟨28, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x128, .bf16⟩
  | .local _ .vmem, ⟨8, _⟩ => ⟨S1x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S32768x1024 : Shape := ⟨2, ![32768, 1024]⟩
abbrev S1024 : Shape := ⟨1, ![1024]⟩
abbrev S1024x9224 : Shape := ⟨2, ![1024, 9224]⟩
abbrev S4 : Shape := ⟨1, ![4]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9224 : Shape := ⟨2, ![32768, 9224]⟩
abbrev S32768x5120 : Shape := ⟨2, ![32768, 5120]⟩
abbrev S32768x3072 : Shape := ⟨2, ![32768, 3072]⟩
abbrev S32768x9216 : Shape := ⟨2, ![32768, 9216]⟩
abbrev S32768x4 : Shape := ⟨2, ![32768, 4]⟩
abbrev S1x4 : Shape := ⟨2, ![1, 4]⟩
abbrev S32768x8 : Shape := ⟨2, ![32768, 8]⟩
abbrev S32768x128 : Shape := ⟨2, ![32768, 128]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9224, .f32⟩
  | .hbm, ⟨3, _⟩ => ⟨S4, .f32⟩
  | .hbm, ⟨4, _⟩ => ⟨S4, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x9224, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x5120, .f32⟩
  | .hbm, ⟨27, _⟩ => ⟨S32768x3072, .f32⟩
  | .hbm, ⟨28, _⟩ => ⟨S32768x9216, .f32⟩
  | .hbm, ⟨29, _⟩ => ⟨S32768x4, .f32⟩
  | .hbm, ⟨30, _⟩ => ⟨S1x4, .f32⟩
  | .hbm, ⟨31, _⟩ => ⟨S32768x4, .f32⟩
  | .hbm, ⟨32, _⟩ => ⟨S32768x4, .f32⟩
  | .hbm, ⟨33, _⟩ => ⟨S32768x4, .f32⟩
  | .hbm, ⟨34, _⟩ => ⟨S1x4, .f32⟩
  | .hbm, ⟨35, _⟩ => ⟨S32768x4, .f32⟩
  | .hbm, ⟨36, _⟩ => ⟨S32768x4, .f32⟩
  | .hbm, ⟨37, _⟩ => ⟨S32768x8, .f32⟩
  | .hbm, ⟨38, _⟩ => ⟨S32768x9216, .bf16⟩
  | .hbm, ⟨39, _⟩ => ⟨S_, .i32⟩
  | .hbm, ⟨40, _⟩ => ⟨S_, .f32⟩
  | .hbm, ⟨41, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.SbMath.lean ====
/- The mathematics of stick-breaking attention on the real numbers: the softplus, the mass that a
   row leaves above a column, and the two cuts of a row into blocks of 256 columns that the kernel makes. -/
module

public import Idealize.ShloMosaic.PureOps.Ideal.Laws
public import Idealize.ShloMosaic.Lib.IdealHost

@[expose] public section

noncomputable section

namespace Cert.Sb

open Idealize.ShloMosaic

/-- The softplus `log (1 + eˣ)`, in the form that does not overflow. -/
def sp (x : ℝ) : ℝ := max x 0 + Real.log (1 + Real.exp (-|x|))

/-- `log (1 + e⁻ˣ) = log (1 + eˣ) − x`. -/
theorem sp_neg (x : ℝ) : sp (-x) = sp x - x := by
  unfold sp
  rw [abs_neg]
  have h : max (-x) 0 = max x 0 - x := by
    rcases le_total x 0 with h | h
    · rw [max_eq_left (by linarith), max_eq_right h]; ring
    · rw [max_eq_right (by linarith), max_eq_left h]; ring
  rw [h]; ring

/-- What the columns from `s` up to the row `t` take of the stick: the sum of their softplus. -/
def W (z : ℕ → ℝ) (t s : ℕ) : ℝ := ∑ j ∈ Finset.Ico s t, sp (z j)

/-- The weight of column `s` in row `t`. -/
def A (z : ℕ → ℝ) (t s : ℕ) : ℝ := Real.exp (z s - W z t s)

/-- The part of row `t`'s result that the columns from `lo` on contribute. -/
def Out (z v : ℕ → ℝ) (t lo : ℕ) : ℝ := ∑ s ∈ Finset.Ico lo t, A z t s * v s

/-- A sum over the block of columns `T … T + 255`. -/
theorem sum_block (f : ℕ → ℝ) (T : ℕ) : ∑ c : Fin 256, f (T + c) = ∑ j ∈ Finset.Ico T (T + 256), f j := by
  rw [Fin.sum_univ_eq_sum_range (fun i => f (T + i)) 256, Finset.sum_Ico_eq_sum_range]
  simp

/-- The columns of a block from `c` on, picked out of it by a 0/1 factor. -/
theorem sum_block_from (f : ℕ → ℝ) (T c : ℕ) (hc : c ≤ 256) :
    ∑ j : Fin 256, f (T + j) * (if c ≤ j.val then 1 else 0) = ∑ j ∈ Finset.Ico (T + c) (T + 256), f j := by
  have h := sum_block (fun j => f j * (if T + c ≤ j then 1 else 0)) T
  simp only [Nat.add_le_add_iff_left] at h
  rw [h]
  simp only [mul_ite, mul_one, mul_zero]
  rw [← Finset.sum_filter]
  refine Finset.sum_congr ?_ fun _ _ => rfl
  ext j; simp only [Finset.mem_filter, Finset.mem_Ico]; omega

/-- A whole block below the row: what it takes from column `c` on is its own sum and what the columns
    above the block take. -/
theorem W_block (z : ℕ → ℝ) (t T c : ℕ) (hc : c ≤ 256) (hT : T + 256 ≤ t) :
    W z t (T + c) = ∑ j : Fin 256, sp (z (T + j)) * (if c ≤ j.val then 1 else 0) + W z t (T + 256) := by
  unfold W
  rw [sum_block_from (fun j => sp (z j)) T c hc, Finset.sum_Ico_consecutive _ (by omega) hT]

/-- The diagonal block: the columns left of the row only. -/
theorem W_diag (z : ℕ → ℝ) (T r c : ℕ) (hr : r < 256) (hc : c ≤ 256) :
    W z (T + r) (T + c)
      = ∑ j : Fin 256, (if j.val < r then sp (z (T + j)) else 0) * (if c ≤ j.val then 1 else 0) := by
  have h := sum_block_from (fun j => if j < T + r then sp (z j) else 0) T c hc
  simp only [Nat.add_lt_add_iff_left] at h
  rw [h, ← Finset.sum_filter]
  unfold W
  refine Finset.sum_congr ?_ fun _ _ => rfl
  ext j; simp only [Finset.mem_filter, Finset.mem_Ico]; omega

/-- A whole block below the row adds its own columns to the result. -/
theorem Out_block (z v : ℕ → ℝ) (t T : ℕ) (hT : T + 256 ≤ t) :
    Out z v t T = Out z v t (T + 256) + ∑ c : Fin 256, A z t (T + c) * v (T + c) := by
  unfold Out
  rw [sum_block (fun s => A z t s * v s) T, add_comm, Finset.sum_Ico_consecutive _ (by omega) hT]

/-- The diagonal block's result. -/
theorem Out_diag (z v : ℕ → ℝ) (T r : ℕ) (hr : r < 256) :
    Out z v (T + r) T = ∑ c : Fin 256, (if c.val < r then A z (T + r) (T + c) else 0) * v (T + c) := by
  have h := sum_block (fun s => (if s < T + r then A z (T + r) s else 0) * v s) T
  simp only [Nat.add_lt_add_iff_left] at h
  rw [h]
  simp only [ite_mul, zero_mul]
  rw [← Finset.sum_filter]
  unfold Out
  refine Finset.sum_congr ?_ fun _ _ => rfl
  ext j; simp only [Finset.mem_filter, Finset.mem_Ico]; omega

/-! ## The same on the extended reals, at real arguments -/

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A 0/1 factor or a masked value, read as an extended real. -/
theorem coe_ite (p : Prop) [Decidable p] (x y : ℝ) : ((if p then x else y : ℝ) : EReal) = if p then (x : EReal) else (y : EReal) := by
  split <;> rfl

/-- The greater of two reals. -/
theorem coe_max (x y : ℝ) : ((max x y : ℝ) : EReal) = max (x : EReal) (y : EReal) :=
  (EReal.coe_strictMono.monotone.map_max (a := x) (b := y))

/-- The absolute value of a real. -/
theorem coe_abs (x : ℝ) : max (x : EReal) (-(x : EReal)) = ((|x| : ℝ) : EReal) := by
  rw [← EReal.coe_neg, ← coe_max]; rfl

/-- The logarithm of one plus an exponential. -/
theorem log_one_add_exp (y : ℝ) : Ideal.log (1 + Ideal.exp (y : EReal)) = ((Real.log (1 + Real.exp y) : ℝ) : EReal) := by
  have h : (1 : EReal) + ((Real.exp y : ℝ) : EReal) = ((1 + Real.exp y : ℝ) : EReal) := by
    rw [EReal.coe_add, EReal.coe_one]
  rw [Ideal.exp_coe, h, Ideal.log_coe, if_neg (by have := Real.exp_pos y; linarith)]

/-- The softplus as a kernel writes it. -/
theorem sp_coe (x : ℝ) :
    max (x : EReal) 0 + Ideal.log (1 + Ideal.exp (0 - max (x : EReal) (-(x : EReal)))) = (sp x : EReal) := by
  rw [coe_abs, zero_sub, ← EReal.coe_neg, log_one_add_exp]
  unfold sp
  rw [EReal.coe_add, coe_max, EReal.coe_zero]

/-- `x · 1 / (1 + e⁻ˣ)` as a kernel writes it. -/
def silu (x : ℝ) : ℝ := x * (1 / (1 + Real.exp (-x)))

/-- The quotient `1 / (1 + e⁻ˣ)` of extended reals at a real. -/
theorem div_one_add_exp (x : ℝ) :
    Ideal.div 1 (1 + Ideal.exp (-(x : EReal))) = ((1 / (1 + Real.exp (-x)) : ℝ) : EReal) := by
  have h : (1 : EReal) + ((Real.exp (-x) : ℝ) : EReal) = ((1 + Real.exp (-x) : ℝ) : EReal) := by
    rw [EReal.coe_add, EReal.coe_one]
  rw [← EReal.coe_neg, Ideal.exp_coe, h, Ideal.div_coe (by have := Real.exp_pos (-x); linarith), one_mul]

end Cert.Sb

end
-- ==== Proof.SbBlock.lean ====
/- One grid point of the stick-breaking kernel, on its blocks: what the diagonal block leaves and what one trip of
   the loop over the blocks before it adds. -/
module

public import proofs.«01_k».proof.Proof.SbMath
public import proofs.«01_k».proof.Proof.Gen.KernelIdeal.Skeleton
public import Idealize.ShloMosaic.Lib.Pointwise
public import Idealize.ShloMosaic.Lib.WordCmp

@[expose] public section

set_option maxRecDepth 16384

noncomputable section

namespace Cert.Sb

open Cert.KernelIdeal Cert.KernelIdeal.Gen Idealize.ShloMosaic

variable (Q : FVec Ideal S256x128 .bf16) (Q3 : Vec Ideal S1x256x128 .bf16) (M : FVec Ideal S256x256 .bf16)
  (K V : Vec Ideal S1x256x128 .bf16) (q : Fin 256 → Fin 128 → ℝ) (k v : ℕ → Fin 128 → ℝ) (T : ℕ)

/-- The scores of one query row against every key row. -/
def score (q : Fin 128 → ℝ) (k : ℕ → Fin 128 → ℝ) (s : ℕ) : ℝ := ∑ d : Fin 128, q d * k s d

/-- A row of products with real entries is the real score. -/
theorem score_coe (q : Fin 128 → ℝ) (k : ℕ → Fin 128 → ℝ) (s : ℕ) :
    ∑ d : Fin 128, (q d : EReal) * (k s d : EReal) = (score q k s : EReal) := by
  unfold score
  rw [coe_sum]
  exact Finset.sum_congr rfl fun d _ => (EReal.coe_mul _ _).symm

/-- A real less itself is nothing. -/
theorem coe_sub_self (x : ℝ) : (x : EReal) - (x : EReal) = 0 := by
  rw [← EReal.coe_sub, sub_self, EReal.coe_zero]

/-- A row of reals summed under a 0/1 column, the low halves of the entries being nothing. -/
theorem split_sum (f : Fin 256 → ℝ) (c : Fin 256) :
    (∑ x, (f x : EReal) * (if c ≤ x then (1 : EReal) else 0)) + ∑ x, ((f x : EReal) - (f x : EReal)) * (if c ≤ x then (1 : EReal) else 0)
      = ((∑ j : Fin 256, f j * (if c.val ≤ j.val then 1 else 0) : ℝ) : EReal) := by
  simp only [coe_sub_self, zero_mul, Finset.sum_const_zero, add_zero]
  rw [coe_sum]
  refine Finset.sum_congr rfl fun j _ => ?_
  rw [EReal.coe_mul, coe_ite, EReal.coe_one, EReal.coe_zero]
  rfl

section Trip

variable (hq : ∀ r d, Q (ix2 r d) = (q r d : EReal)) (hk : ∀ (c : Fin 256) d, K (ix3 0 c d) = (k (T + c) d : EReal))
  (hv : ∀ (c : Fin 256) d, V (ix3 0 c d) = (v (T + c) d : EReal))
  (hM : ∀ r c : Fin 256, M (ix2 r c) = if c ≤ r then 1 else 0)
include hq hk

/-- The scores a trip computes. -/
theorem pay3_apply (r c : Fin 256) : k0_pay3 Q K (ix2 r c) = (score (q r) k (T + c) : EReal) := by
  pointwise [k0_pay3]
  simp only [hq, hk]
  exact score_coe _ _ _

include hM

/-- The softplus of a trip's scores, summed from each column to the block's end. -/
theorem pay4_apply (r c : Fin 256) : k0_pay4 Q M K (ix2 r c)
      = ((∑ j : Fin 256, sp (score (q r) k (T + j)) * (if c.val ≤ j.val then 1 else 0) : ℝ) : EReal) := by
  pointwise [k0_pay4]
  simp only [pay3_apply Q K q k T hq hk, hM, Ideal.absf_def, sp_coe]
  exact split_sum (fun j => sp (score (q r) k (T + j))) c

/-- A trip carries what the columns take from its block's first on. -/
theorem pay6_apply (ca : FVec Ideal S256x1 .f32) (r : Fin 256) (t : ℕ) (hT : T + 256 ≤ t)
    (hca : ca (ix2 r 0) = (W (score (q r) k) t (T + 256) : EReal)) :
    k0_pay6 Q M ca K (ix2 r 0) = (W (score (q r) k) t T : EReal) := by
  pointwise [k0_pay6]
  rw [pay4_apply Q M K q k T hq hk hM, hca, ← EReal.coe_add, add_comm]
  have h := W_block (score (q r) k) t T 0 (by omega) hT
  rw [add_zero] at h
  rw [h]
  rfl

include hv

/-- A trip adds its block's columns to the result. -/
theorem pay5_apply (acc : FVec Ideal S256x128 .f32) (ca : FVec Ideal S256x1 .f32) (r : Fin 256) (d : Fin 128) (t : ℕ)
    (hT : T + 256 ≤ t) (hca : ca (ix2 r 0) = (W (score (q r) k) t (T + 256) : EReal))
    (hacc : acc (ix2 r d) = (Out (score (q r) k) (fun s => v s d) t (T + 256) : EReal)) :
    k0_pay5 Q M acc ca K V (ix2 r d) = (Out (score (q r) k) (fun s => v s d) t T : EReal) := by
  pointwise [k0_pay5]
  rw [Out_block _ _ t T hT, EReal.coe_add, hacc, coe_sum]
  refine congrArg _ (Finset.sum_congr rfl fun c _ => ?_)
  rw [pay3_apply Q K q k T hq hk, pay4_apply Q M K q k T hq hk hM, hca, hv, ← EReal.coe_sub, ← EReal.coe_sub,
    Ideal.exp_coe, ← EReal.coe_mul]
  unfold A
  rw [W_block (score (q r) k) t T c (by omega) hT, sub_sub]

end Trip

section Diag

variable (hq : ∀ r d, Q3 (ix3 0 r d) = (q r d : EReal)) (hk : ∀ (c : Fin 256) d, K (ix3 0 c d) = (k (T + c) d : EReal))
  (hv : ∀ (c : Fin 256) d, V (ix3 0 c d) = (v (T + c) d : EReal))
  (hM : ∀ r c : Fin 256, M (ix2 r c) = if c ≤ r then 1 else 0)

/-- The query block without its unit axis. -/
theorem pay12_apply (r : Fin 256) (d : Fin 128) : k0_pay12 Q3 (ix2 r d) = Q3 (ix3 0 r d) := by
  pointwise [k0_pay12]

/-- The 0/1 matrix is read as it is stored. -/
theorem pay13_eq : k0_pay13 M = M := by
  funext i; idx_vars i; pointwise [k0_pay13]

/-- The mask of the diagonal block: the columns left of the row. -/
theorem pay16_apply (r c : Fin 256) : k0_pay16 (ix2 r c) = BitVec.ofBool (decide (c.val < r.val)) := by
  pointwise [k0_pay16]
  exact WordCmp.cmpi_slt_ofNat (by have := c.isLt; omega) (by have := r.isLt; omega)

include hq hk

/-- The scores of the diagonal block. -/
theorem pay15_apply (r c : Fin 256) : k0_pay15 Q3 K (ix2 r c) = (score (q r) k (T + c) : EReal) := by
  pointwise [k0_pay15, k0_pay12]
  simp only [hq, hk]
  exact score_coe _ _ _

include hM

/-- What the columns of the diagonal block take, from each column up to the row. -/
theorem pay17_apply (r c : Fin 256) : k0_pay17 Q3 M K (ix2 r c)
      = (W (score (q r) k) (T + r) (T + c) : EReal) := by
  rw [W_diag _ T r c r.isLt (by omega), ← split_sum (fun j => if j.val < r.val then sp (score (q r) k (T + j)) else 0) c]
  pointwise [k0_pay17, k0_pay13]
  simp only [pay15_apply Q3 K q k T hq hk, hM, Ideal.absf_def, sp_coe, pay16_apply, coe_ite, EReal.coe_zero]
  congr 1
  · refine Finset.sum_congr rfl fun x _ => ?_
    by_cases h : x.val < r.val <;> simp [h, Scalar.select]
  · refine Finset.sum_congr rfl fun x _ => ?_
    by_cases h : x.val < r.val <;> simp [h, Scalar.select]

/-- The weights of the diagonal block. -/
theorem pay18_apply (r c : Fin 256) : k0_pay18 Q3 M K (ix2 r c)
      = ((if c.val < r.val then A (score (q r) k) (T + r) (T + c) else 0 : ℝ) : EReal) := by
  pointwise [k0_pay18]
  rw [pay15_apply Q3 K q k T hq hk, pay17_apply Q3 M K q k T hq hk hM, pay16_apply, ← EReal.coe_sub, Ideal.exp_coe]
  by_cases h : c.val < r.val <;> simp [h, Scalar.select, A]

/-- What the diagonal block's columns take in all. -/
theorem pay2_apply (r : Fin 256) : k0_pay2 (k0_pay17 Q3 M K) (ix2 r 0) = (W (score (q r) k) (T + r) T : EReal) := by
  pointwise [k0_pay2]
  exact pay17_apply Q3 M K q k T hq hk hM r 0

include hv

/-- The diagonal block's result. -/
theorem pay1_apply (r : Fin 256) (d : Fin 128) : k0_pay1 (k0_pay14 V) (k0_pay18 Q3 M K) (ix2 r d)
      = (Out (score (q r) k) (fun s => v s d) (T + r) T : EReal) := by
  rw [Out_diag _ _ T r r.isLt, coe_sum]
  pointwise [k0_pay1, k0_pay14]
  refine Finset.sum_congr rfl fun c _ => ?_
  rw [pay18_apply Q3 M K q k T hq hk hM, hv, ← EReal.coe_mul]

end Diag

/-- The last step of a grid point: the result under its gate. -/
theorem pay11_apply (acc : FVec Ideal S256x128 .f32) (Z : Vec Ideal S1x256x128 .bf16) (r : Fin 256) (d : Fin 128) (o z : ℝ)
    (ho : acc (ix2 r d) = (o : EReal)) (hz : Z (ix3 0 r d) = (z : EReal)) :
    k0_pay11 acc Z (ix3 0 r d) = ((o * silu z : ℝ) : EReal) := by
  pointwise [k0_pay11]
  rw [ho, hz, zero_sub, div_one_add_exp, ← EReal.coe_mul, ← EReal.coe_mul]
  rfl

end Cert.Sb

end
-- ==== Proof.SbPoint.lean ====
/- One grid point of the stick-breaking kernel: the loop over the blocks before the diagonal one, by induction on
   its trips, and the block of the result the point leaves. -/
module

public import proofs.«01_k».proof.Proof.SbBlock
public import proofs.«01_k».proof.Proof.Gen.KernelIdeal.Value
public import Idealize.ShloMosaic.Lib.Pipeline.ValueKit

@[expose] public section

set_option maxRecDepth 16384

noncomputable section

namespace Cert.Sb

open Cert.KernelIdeal Cert.KernelIdeal.Gen Idealize.ShloMosaic Idealize.ShloMosaic.TcCoe Idealize.SL.Sem

/-- The trip count's chain at each of the 32 row blocks: as many trips as blocks before the row block. -/
theorem trips_chain : ∀ a : Fin 32, Scf.trips (0#32)
    (Scalar.addi (0#32) (Scalar.muli (Scalar.divsi (Scalar.subi (BitVec.ofNat 32 a.val) 0#32) 1#32) 1#32)) 1#32 = a.val := by
  decide +kernel

/-- The second loop takes what the first has left over: no trip. -/
theorem trips_chain2 : ∀ a : Fin 32, Scf.trips
    (Scalar.addi (0#32) (Scalar.muli (Scalar.divsi (Scalar.subi (BitVec.ofNat 32 a.val) 0#32) 1#32) 1#32))
    (Scalar.addi (0#32) (Scalar.subi (BitVec.ofNat 32 a.val) 0#32)) 1#32 = 0 := by
  decide +kernel

/-- The first row of the block that trip `n` of row block `a` reads. -/
theorem off_chain : ∀ a n : Fin 32, n.val < a.val →
    (Scalar.indexCast (Scalar.muli (Scalar.subi (Scalar.subi (BitVec.ofNat 32 a.val) 1#32) (Scf.iv 0#32 1#32 n.val)) 256#32)).toNat
      = 256 * (a.val - 1 - n.val) := by
  decide +kernel

/-- The row block of a grid point. -/
abbrev rowBlk (i : grid0.Coords) : Fin 32 := i 2

/-- The loop's trips. -/
theorem t1_trips (i : grid0.Coords) : (k0_t1_loop i).trips = (rowBlk i).val := trips_chain (rowBlk i)

/-- Trip `n` reads the block `n + 1` before the diagonal one. -/
theorem off2_eq (i : grid0.Coords) (n : Fin (k0_t1_loop i).trips) : k0_off2 i n = ![0, 256 * ((rowBlk i).val - 1 - n.val), 0] := by
  have hn : n.val < (rowBlk i).val := lt_of_lt_of_eq n.isLt (t1_trips i)
  have h := off_chain (rowBlk i) ⟨n.val, by have := (rowBlk i).isLt; omega⟩ hn
  funext a
  match a with
  | ⟨0, _⟩ => rfl
  | ⟨1, _⟩ => exact h
  | ⟨2, _⟩ => rfl

/-- A load of 256 rows from row `T` on. -/
theorem ld_rows (X : Vec Ideal S1x8192x128 .bf16) (off : Fin 3 → Nat) (T : ℕ) (h : off = ![0, T, 0])
    (hb : ∀ a, off a + S1x256x128.size a ≤ S1x8192x128.size a) (c : Fin 256) (d : Fin 128) (hT : T + c.val < 8192) :
    View.ld X (Rect.unit off S1x256x128.size hb) (ix3 0 c d) = X (ix3 0 ⟨T + c.val, hT⟩ d) := by
  subst h
  pointwise

section
variable (𝒱 : Variants) (c : Dev nD) (bd : Option 𝒱.V) (i : grid0.Coords) (a3 : Memref sig .tc .vmem S1x256x128 .bf16) (h3 : a3.IsWhole)
  (a4 : Memref sig .tc .vmem S1x8192x128 .bf16) (h4 : a4.IsWhole) (a5 : Memref sig .tc .vmem S1x8192x128 .bf16) (h5 : a5.IsWhole)
  (a6 : Memref sig .tc .vmem S1x256x128 .bf16) (h6 : a6.IsWhole) (a7 : Memref sig .tc .vmem S256x256 .bf16) (h7 : a7.IsWhole)
  (a8 : Memref sig .tc .vmem S1x256x128 .bf16) (h8 : a8.IsWhole) (Q : FVec Ideal S256x128 .bf16) (M : FVec Ideal S256x256 .bf16)
  (X4 X5 : Vec Ideal S1x8192x128 .bf16)

/-- What one trip yields, over the blocks it reads. -/
theorem trip_eq (n : Fin (k0_t1_loop i).trips) (acc : FVec Ideal S256x128 .f32 × FVec Ideal S256x1 .f32) :
    tripR_k0_t1 (F := Ideal) 𝒱 c bd i a3 h3 a4 h4 a5 h5 a6 h6 a7 h7 a8 h8 Q M (h4.unread X4) (h5.unread X5) n acc
      = (k0_pay5 Q M acc.1 acc.2 (View.ld X4 (Rect.unit (k0_off2 i n) S1x256x128.size (k0_off2_inb i n)))
          (View.ld X5 (Rect.unit (k0_off2 i n) S1x256x128.size (k0_off2_inb i n))),
        k0_pay6 Q M acc.2 (View.ld X4 (Rect.unit (k0_off2 i n) S1x256x128.size (k0_off2_inb i n)))) := by
  unfold tripR_k0_t1 trip_k0_t1
  frame_out

variable (q : Fin 256 → Fin 128 → ℝ) (k v : ℕ → Fin 128 → ℝ)
  (hq : ∀ r d, Q (ix2 r d) = (q r d : EReal)) (hk : ∀ (s : Fin 8192) d, X4 (ix3 0 s d) = (k s d : EReal))
  (hv : ∀ (s : Fin 8192) d, X5 (ix3 0 s d) = (v s d : EReal)) (hM : ∀ r c : Fin 256, M (ix2 r c) = if c ≤ r then 1 else 0)
include hq hk hv hM

/-- The carried values before trip `n`: the result of the columns of the last `n` blocks and of the diagonal one,
    and what those columns take. -/
theorem loop_apply (init : FVec Ideal S256x128 .f32 × FVec Ideal S256x1 .f32)
    (h1 : ∀ r d, init.1 (ix2 r d) = (Out (score (q r) k) (fun s => v s d) (256 * (rowBlk i).val + r) (256 * (rowBlk i).val) : EReal))
    (h2 : ∀ r, init.2 (ix2 r 0) = (W (score (q r) k) (256 * (rowBlk i).val + r) (256 * (rowBlk i).val) : EReal)) :
    ∀ n : ℕ, n ≤ (rowBlk i).val → ∀ r : Fin 256,
      (∀ d, (st_k0_t1 (F := Ideal) 𝒱 c bd i a3 h3 a4 h4 a5 h5 a6 h6 a7 h7 a8 h8 Q M (h4.unread X4) (h5.unread X5) init n).1 (ix2 r d)
        = (Out (score (q r) k) (fun s => v s d) (256 * (rowBlk i).val + r) (256 * ((rowBlk i).val - n)) : EReal))
      ∧ (st_k0_t1 (F := Ideal) 𝒱 c bd i a3 h3 a4 h4 a5 h5 a6 h6 a7 h7 a8 h8 Q M (h4.unread X4) (h5.unread X5) init n).2 (ix2 r 0)
        = (W (score (q r) k) (256 * (rowBlk i).val + r) (256 * ((rowBlk i).val - n)) : EReal) := by
  intro n
  induction n with
  | zero =>
    intro _ r
    rw [st_k0_t1_zero]
    exact ⟨fun d => h1 r d, h2 r⟩
  | succ n ih =>
    intro hn r
    have hi := (rowBlk i).isLt
    have hlt : n < (k0_t1_loop i).trips := by rw [t1_trips]; omega
    obtain ⟨e1, e2⟩ := ih (by omega) r
    have hs := st_k0_t1_succ (F := Ideal) 𝒱 c bd i a3 h3 a4 h4 a5 h5 a6 h6 a7 h7 a8 h8 Q M (h4.unread X4) (h5.unread X5) init ⟨n, hlt⟩
    rw [trip_eq] at hs
    have e : 256 * ((rowBlk i).val - n) = 256 * ((rowBlk i).val - (n + 1)) + 256 := by omega
    rw [e] at e1 e2
    have ho := off2_eq i ⟨n, hlt⟩
    have e' : (rowBlk i).val - 1 - n = (rowBlk i).val - (n + 1) := by omega
    simp only [e'] at ho
    have hK : ∀ (cc : Fin 256) d, View.ld X4 (Rect.unit (k0_off2 i ⟨n, hlt⟩) S1x256x128.size (k0_off2_inb i ⟨n, hlt⟩)) (ix3 0 cc d)
        = (k (256 * ((rowBlk i).val - (n + 1)) + cc) d : EReal) := fun cc d => by
      have := cc.isLt
      rw [ld_rows X4 _ _ ho _ cc d (by omega)]
      exact hk _ d
    have hV : ∀ (cc : Fin 256) d, View.ld X5 (Rect.unit (k0_off2 i ⟨n, hlt⟩) S1x256x128.size (k0_off2_inb i ⟨n, hlt⟩)) (ix3 0 cc d)
        = (v (256 * ((rowBlk i).val - (n + 1)) + cc) d : EReal) := fun cc d => by
      have := cc.isLt
      rw [ld_rows X5 _ _ ho _ cc d (by omega)]
      exact hv _ d
    rw [hs]
    exact ⟨fun d => pay5_apply Q M _ _ q k v _ hq hK hV hM _ _ r d _ (by omega) e2 (e1 d),
      pay6_apply Q M _ q k _ hq hK hM _ r _ (by omega) e2⟩

end

section
variable (m : (ℓ : Loc nD τ sig) → Buf (Elt Ideal) ℓ) (c : Dev nD) (t : Fin cfg0.N)
  (q : Fin 256 → Fin 128 → ℝ) (k v : ℕ → Fin 128 → ℝ)

/-- The block a grid point leaves, at an element: row `256 i + r` of the attention, under its gate. -/
theorem outs_apply (hq : ∀ r d, (iblk m c 0 t : Vec Ideal S1x256x128 .bf16) (ix3 0 r d) = (q r d : EReal))
    (hk : ∀ (s : Fin 8192) d, (iblk m c 1 t : Vec Ideal S1x8192x128 .bf16) (ix3 0 s d) = (k s d : EReal))
    (hv : ∀ (s : Fin 8192) d, (iblk m c 2 t : Vec Ideal S1x8192x128 .bf16) (ix3 0 s d) = (v s d : EReal))
    (hM : ∀ r c' : Fin 256, (iblk m c 4 t : Vec Ideal S256x256 .bf16) (ix2 r c') = if c' ≤ r then (1 : EReal) else (0 : EReal))
    (r : Fin 256) (d : Fin 128) (z : ℝ) (hz : (iblk m c 3 t : Vec Ideal S1x256x128 .bf16) (ix3 0 r d) = (z : EReal)) :
    (outsAt0 m c t : Vec Ideal S1x256x128 .bf16) (ix3 0 r d)
      = ((Out (score (q r) k) (fun s => v s d) (256 * (rowBlk (grid0.coords t)).val + r) 0 * silu z : ℝ) : EReal) := by
  unfold outsAt0
  frame_out
  refine pay11_apply _ _ r d _ _ ?_ hz
  have hi := (rowBlk (grid0.coords t)).isLt
  have ho : k0_off1 (grid0.coords t) = ![0, 256 * (rowBlk (grid0.coords t)).val, 0] := k0_off1_eq (grid0.coords t)
  have hK : ∀ (cc : Fin 256) d, View.ld (iblk m c 1 t : Vec Ideal S1x8192x128 .bf16) (Rect.unit (k0_off1 (grid0.coords t)) S1x256x128.size (k0_off1_inb (grid0.coords t))) (ix3 0 cc d)
      = (k (256 * (rowBlk (grid0.coords t)).val + cc) d : EReal) := fun cc d => by
    have := cc.isLt
    rw [ld_rows _ _ _ ho _ cc d (by omega)]
    exact hk _ d
  have hV : ∀ (cc : Fin 256) d, View.ld (iblk m c 2 t : Vec Ideal S1x8192x128 .bf16) (Rect.unit (k0_off1 (grid0.coords t)) S1x256x128.size (k0_off1_inb (grid0.coords t))) (ix3 0 cc d)
      = (v (256 * (rowBlk (grid0.coords t)).val + cc) d : EReal) := fun cc d => by
    have := cc.isLt
    rw [ld_rows _ _ _ ho _ cc d (by omega)]
    exact hv _ d
  have e2 := trips_chain2 (rowBlk (grid0.coords t))
  have e1 := trips_chain (rowBlk (grid0.coords t))
  rw [e2, st_k0_t2_zero, e1, pay13_eq]
  have h := loop_apply Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (k0_pay12 (iblk m c 0 t)) (iblk m c 4 t) (iblk m c 1 t) (iblk m c 2 t) q k v
    (fun r d => (pay12_apply _ r d).trans (hq r d)) hk hv hM
    (k0_pay1 (k0_pay14 (View.ld (iblk m c 2 t : Vec Ideal S1x8192x128 .bf16) (Rect.unit (k0_off1 (grid0.coords t)) S1x256x128.size (k0_off1_inb (grid0.coords t))))) (k0_pay18 (iblk m c 0 t) (iblk m c 4 t) (View.ld (iblk m c 1 t : Vec Ideal S1x8192x128 .bf16) (Rect.unit (k0_off1 (grid0.coords t)) S1x256x128.size (k0_off1_inb (grid0.coords t))))), k0_pay2 (k0_pay17 (iblk m c 0 t) (iblk m c 4 t) (View.ld (iblk m c 1 t : Vec Ideal S1x8192x128 .bf16) (Rect.unit (k0_off1 (grid0.coords t)) S1x256x128.size (k0_off1_inb (grid0.coords t))))))
    (fun r d => pay1_apply _ _ _ _ q k v _ hq hK hV hM r d) (fun r => pay2_apply _ _ _ q k _ hq hK hM r)
    (rowBlk (grid0.coords t)).val (le_refl _) r
  have h1 := h.1 d
  rw [Nat.sub_self, Nat.mul_zero] at h1
  exact h1

end

end Cert.Sb

end
-- ==== Proof.SbArray.lean ====
/- The stick-breaking kernel's result array: the blocks its windows read of the projected rows, the triangular matrix
   it computes on the host, and the final array put together from the blocks the grid points write. -/
module

public import proofs.«01_k».proof.Proof.SbPoint
public import Idealize.ShloMosaic.Lib.Pipeline.Covers

@[expose] public section

set_option maxRecDepth 16384

noncomputable section

namespace Cert.Sb

open Cert.KernelIdeal Cert.KernelIdeal.Gen Idealize.ShloMosaic Idealize.ShloMosaic.TcCoe Idealize.SL.Sem

/-- One element of the result: batch row `b`, head `h`, token `t`, feature `d`, of projected rows `u`. The head's
    queries, keys, values and gates are 128 columns each, from columns 5120, 6144, 7168 and 8192 on. -/
def entry (u : Fin 4 → ℕ → ℕ → ℝ) (b : Fin 4) (h t d : ℕ) : ℝ :=
  Out (score (fun e => u b t (5120 + 128 * h + e)) (fun s e => u b s (6144 + 128 * h + e)))
      (fun s => u b s (7168 + 128 * h + d)) t 0
    * silu (u b t (8192 + 128 * h + d))

theorem word4 : ∀ a : Fin 4, (BitVec.ofNat 32 a.val).toNat = a.val := by decide
theorem word8 : ∀ a : Fin 8, (BitVec.ofNat 32 a.val).toNat = a.val := by decide
theorem word32 : ∀ a : Fin 32, (BitVec.ofNat 32 a.val).toNat = a.val := by decide
theorem word40 : ∀ a : Fin 8, (Scalar.addi 40#32 (BitVec.ofNat 32 a.val)).toNat = 40 + a.val := by decide
theorem word48 : ∀ a : Fin 8, (Scalar.addi 48#32 (BitVec.ofNat 32 a.val)).toNat = 48 + a.val := by decide
theorem word56 : ∀ a : Fin 8, (Scalar.addi 56#32 (BitVec.ofNat 32 a.val)).toNat = 56 + a.val := by decide
theorem word64 : ∀ a : Fin 8, (Scalar.addi 64#32 (BitVec.ofNat 32 a.val)).toNat = 64 + a.val := by decide

/-- A grid point's batch row. -/
abbrev batch (i : grid0.Coords) : Fin 4 := i 0
/-- A grid point's head. -/
abbrev head (i : grid0.Coords) : Fin 8 := i 1

section
variable (m : (ℓ : Loc nD τ sig) → Buf (Elt Ideal) ℓ) (c : Dev nD) (t : Fin cfg0.N)

theorem index0 : win0_0.index t = ![(batch (grid0.coords t)).val, (rowBlk (grid0.coords t)).val, 40 + (head (grid0.coords t)).val] := by
  funext a
  match a with
  | ⟨0, _⟩ => exact word4 (batch (grid0.coords t))
  | ⟨1, _⟩ => exact word32 (rowBlk (grid0.coords t))
  | ⟨2, _⟩ => exact word40 (head (grid0.coords t))

theorem index1 : win0_1.index t = ![(batch (grid0.coords t)).val, 0, 48 + (head (grid0.coords t)).val] := by
  funext a
  match a with
  | ⟨0, _⟩ => exact word4 (batch (grid0.coords t))
  | ⟨1, _⟩ => rfl
  | ⟨2, _⟩ => exact word48 (head (grid0.coords t))

theorem index2 : win0_2.index t = ![(batch (grid0.coords t)).val, 0, 56 + (head (grid0.coords t)).val] := by
  funext a
  match a with
  | ⟨0, _⟩ => exact word4 (batch (grid0.coords t))
  | ⟨1, _⟩ => rfl
  | ⟨2, _⟩ => exact word56 (head (grid0.coords t))

theorem index3 : win0_3.index t = ![(batch (grid0.coords t)).val, (rowBlk (grid0.coords t)).val, 64 + (head (grid0.coords t)).val] := by
  funext a
  match a with
  | ⟨0, _⟩ => exact word4 (batch (grid0.coords t))
  | ⟨1, _⟩ => exact word32 (rowBlk (grid0.coords t))
  | ⟨2, _⟩ => exact word64 (head (grid0.coords t))

theorem index5 : win0_5.index t = ![(batch (grid0.coords t)).val, (rowBlk (grid0.coords t)).val, (head (grid0.coords t)).val] := by
  funext a
  match a with
  | ⟨0, _⟩ => exact word4 (batch (grid0.coords t))
  | ⟨1, _⟩ => exact word32 (rowBlk (grid0.coords t))
  | ⟨2, _⟩ => exact word8 (head (grid0.coords t))

/-- The triangular matrix the kernel computes on the host: one on and below the diagonal. -/
theorem tri_apply (r d : Fin 256) :
    (iblk m c 4 t : Vec Ideal S256x256 .bf16) (ix2 r d) = if d ≤ r then (1 : EReal) else (0 : EReal) := by
  blk_simp [iblk]
  have e : (win0_4.blk t).view.emb (ix2 r d) = (ix2 r d : S256x256.Idx) := by
    funext a
    apply Fin.ext
    match a with
    | ⟨0, _⟩ => blk_simp; show 0 * 256 + r.val = r.val; omega
    | ⟨1, _⟩ => blk_simp; show 0 * 256 + d.val = d.val; omega
  rw [e]
  show (uitofp .bf16 (cmpi .sge (iotaInDim S256x256 32 0) (iotaInDim S256x256 32 1)) : FVec Ideal S256x256 .bf16) (ix2 r d) = _
  pointwise
  rw [WordCmp.cmpi_sge_ofNat (by have := r.isLt; omega) (by have := d.isLt; omega)]
  by_cases h : d ≤ r
  · have h' : d.val ≤ r.val := h
    simp only [h, h', decide_true, if_true]
    show (((1#1 : BitVec 1).toNat : ℝ) : EReal) = 1
    simp
  · have h' : ¬ d.val ≤ r.val := h
    simp only [h, h', decide_false, if_false]
    show (((0#1 : BitVec 1).toNat : ℝ) : EReal) = 0
    simp

variable (u : Fin 4 → ℕ → ℕ → ℝ)
  (hu : ∀ (b : Fin 4) (s : Fin 8192) (j : Fin 9216), (m ((c : Thread nD τ).loc main_arg0) : Vec Ideal S4x8192x9216 .bf16) (ix3 b s j) = (u b s j : EReal))
include hu

/-- An argument's element at an index given by its coordinates. -/
theorem arg_apply (i : S4x8192x9216.Idx) (b : Fin 4) (s j : ℕ) (h0 : (i 0).val = b.val) (h1 : (i 1).val = s) (h2 : (i 2).val = j) :
    (V m c main_arg0 : Vec Ideal S4x8192x9216 .bf16) i = (u b s j : EReal) := by
  have e : i = ix3 b ⟨s, h1 ▸ (i 1).isLt⟩ ⟨j, h2 ▸ (i 2).isLt⟩ := by
    funext a
    apply Fin.ext
    match a with
    | ⟨0, _⟩ => exact h0
    | ⟨1, _⟩ => exact h1
    | ⟨2, _⟩ => exact h2
  rw [e]
  exact hu _ _ _

/-- The queries' block. -/
theorem iblk0_apply (r : Fin 256) (d : Fin 128) : (iblk m c 0 t : Vec Ideal S1x256x128 .bf16) (ix3 0 r d)
    = (u (batch (grid0.coords t)) (256 * (rowBlk (grid0.coords t)).val + r) (5120 + 128 * (head (grid0.coords t)).val + d) : EReal) := by
  blk_simp [iblk]
  refine arg_apply m c u hu _ _ _ _ ?_ ?_ ?_ <;> blk_simp [index0]
  · exact Nat.add_zero _
  · show (rowBlk (grid0.coords t)).val * 256 + r.val = _; omega
  · show (40 + (head (grid0.coords t)).val) * 128 + d.val = _; omega

/-- The keys. -/
theorem iblk1_apply (s : Fin 8192) (d : Fin 128) : (iblk m c 1 t : Vec Ideal S1x8192x128 .bf16) (ix3 0 s d)
    = (u (batch (grid0.coords t)) s (6144 + 128 * (head (grid0.coords t)).val + d) : EReal) := by
  blk_simp [iblk]
  refine arg_apply m c u hu _ _ _ _ ?_ ?_ ?_ <;> blk_simp [index1]
  · exact Nat.add_zero _
  · show (48 + (head (grid0.coords t)).val) * 128 + d.val = _; omega

/-- The values. -/
theorem iblk2_apply (s : Fin 8192) (d : Fin 128) : (iblk m c 2 t : Vec Ideal S1x8192x128 .bf16) (ix3 0 s d)
    = (u (batch (grid0.coords t)) s (7168 + 128 * (head (grid0.coords t)).val + d) : EReal) := by
  blk_simp [iblk]
  refine arg_apply m c u hu _ _ _ _ ?_ ?_ ?_ <;> blk_simp [index2]
  · exact Nat.add_zero _
  · show (56 + (head (grid0.coords t)).val) * 128 + d.val = _; omega

/-- The gates' block. -/
theorem iblk3_apply (r : Fin 256) (d : Fin 128) : (iblk m c 3 t : Vec Ideal S1x256x128 .bf16) (ix3 0 r d)
    = (u (batch (grid0.coords t)) (256 * (rowBlk (grid0.coords t)).val + r) (8192 + 128 * (head (grid0.coords t)).val + d) : EReal) := by
  blk_simp [iblk]
  refine arg_apply m c u hu _ _ _ _ ?_ ?_ ?_ <;> blk_simp [index3]
  · exact Nat.add_zero _
  · show (rowBlk (grid0.coords t)).val * 256 + r.val = _; omega
  · show (64 + (head (grid0.coords t)).val) * 128 + d.val = _; omega

/-- The result array: every element is the attention's, under its gate. -/
def result : Vec Ideal S4x8192x1024 .bf16 := fun y => (entry u (y 0) ((y 2).val / 128) (y 1).val ((y 2).val % 128) : EReal)

theorem arr_eq : (dats m 0 c).arrAt 5 cfg0.N = result u := by
  refine (dats m 0 c).arrAt_eq_of_covers 5 _ ((cfg0.win 5).covers_of_indexMap_surj rfl (by decide) fun β => ?_) fun t hf y => ?_
  · have b0 : (β 0).val < 4 := (β 0).isLt
    have b1 : (β 1).val < 32 := (β 1).isLt
    have b2 : (β 2).val < 8 := (β 2).isLt
    refine ⟨fun | ⟨0, _⟩ => ⟨(β 0).val, b0⟩ | ⟨1, _⟩ => ⟨(β 2).val, b2⟩ | ⟨2, _⟩ => ⟨(β 1).val, b1⟩, fun a => ?_⟩
    match a with
    | ⟨0, _⟩ => exact word4 ⟨(β 0).val, b0⟩
    | ⟨1, _⟩ => exact word32 ⟨(β 1).val, b1⟩
    | ⟨2, _⟩ => exact word8 ⟨(β 2).val, b2⟩
  blk_simp
  rw [after0_5]
  obtain ⟨r, d, hy⟩ : ∃ (r : Fin 256) (d : Fin 128), y = (ix3 0 r d : S1x256x128.Idx) :=
    ⟨⟨(y 1).val, (y 1).isLt⟩, ⟨(y 2).val, (y 2).isLt⟩, by
      funext a
      match a with
      | ⟨0, _⟩ => exact Fin.ext (by have : (y 0).val < 1 := (y 0).isLt; show (y 0).val = 0; omega)
      | ⟨1, _⟩ => rfl
      | ⟨2, _⟩ => rfl⟩
  subst hy
  refine (outs_apply m c t _ (fun s e => u (batch (grid0.coords t)) s (6144 + 128 * (head (grid0.coords t)).val + e))
    (fun s e => u (batch (grid0.coords t)) s (7168 + 128 * (head (grid0.coords t)).val + e)) (iblk0_apply m c t u hu) (iblk1_apply m c t u hu) (iblk2_apply m c t u hu) (tri_apply m c t)
    r d _ (iblk3_apply m c t u hu r d)).trans ?_
  have e0 : ((win0_5.blk t).view.emb (ix3 0 r d) 0).val = (batch (grid0.coords t)).val := by
    blk_simp [index5]; exact Nat.add_zero _
  have e1 : ((win0_5.blk t).view.emb (ix3 0 r d) 1).val = 256 * (rowBlk (grid0.coords t)).val + r.val := by
    blk_simp [index5]; show (rowBlk (grid0.coords t)).val * 256 + r.val = _; omega
  have e2 : ((win0_5.blk t).view.emb (ix3 0 r d) 2).val = 128 * (head (grid0.coords t)).val + d.val := by
    blk_simp [index5]; show (head (grid0.coords t)).val * 128 + d.val = _; omega
  have e0' : ((win0_5.blk t).view.emb (ix3 0 r d) 0) = batch (grid0.coords t) := Fin.ext e0
  have hd := d.isLt
  show _ = (entry u ((win0_5.blk t).view.emb (ix3 0 r d) 0) (((win0_5.blk t).view.emb (ix3 0 r d) 2).val / 128)
    ((win0_5.blk t).view.emb (ix3 0 r d) 1).val (((win0_5.blk t).view.emb (ix3 0 r d) 2).val % 128) : EReal)
  rw [e0', e1, e2]
  have f1 : (128 * (head (grid0.coords t)).val + d.val) / 128 = (head (grid0.coords t)).val := by omega
  have f2 : (128 * (head (grid0.coords t)).val + d.val) % 128 = d.val := by omega
  rw [f1, f2]
  rfl

end

end Cert.Sb

end
-- ==== Proof.SbWindow.lean ====
/- The host's running sum from the right, as the sum it is: element `s` of a row holds the sum of the row's elements
   from `s` on. -/
module

public import proofs.«01_k».proof.Proof.SbMath
public import proofs.«01_k».proof.ReferenceIdeal

@[expose] public section

set_option maxRecDepth 16384

noncomputable section

namespace Cert.Sb

open Cert.ReferenceIdeal Idealize.ShloMosaic

/-- A left fold that adds is the initial value and the sum. -/
theorem foldl_add_eq {ι : Type} (g : ι → EReal) : ∀ (l : List ι) (v : EReal), l.foldl (fun r n => r + g n) v = v + (l.map g).sum
  | [], v => by simp
  | a :: l, v => by simp only [List.foldl_cons, List.map_cons, List.sum_cons]; rw [foldl_add_eq g l, add_assoc]

/-- … over the numbers below `n`. -/
theorem foldl_finRange {n : ℕ} (g : Fin n → EReal) (v : EReal) : (List.finRange n).foldl (fun r i => r + g i) v = v + ∑ i, g i := by
  rw [foldl_add_eq, Fin.sum_univ_def]

/-- The window's shape: one row of 8192. -/
abbrev Win : Shape := ⟨4, ![1, 1, 1, 8192]⟩

/-- The window's elements by their place in the row. -/
def winEquiv : Fin 8192 ≃ Win.Idx where
  toFun w := fun | ⟨0, _⟩ => (0 : Fin 1) | ⟨1, _⟩ => (0 : Fin 1) | ⟨2, _⟩ => (0 : Fin 1) | ⟨3, _⟩ => w
  invFun j := j 3
  left_inv _ := rfl
  right_inv j := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl

/-- The window sum at an element, over the row's elements at or right of it. -/
theorem window_apply (h : S4x8x8192x8192.ReduceWindows ![1, 1, 1, 8192] ![1, 1, 1, 1] ![0, 0, 0, 0] ![0, 0, 0, 8191] S4x8x8192x8192)
    (x : S4x8x8192x8192.Idx → EReal) (j : S4x8x8192x8192.Idx) :
    Ideal.hostReduceWindowAdd ![1, 1, 1, 8192] ![1, 1, 1, 1] ![0, 0, 0, 0] ![0, 0, 0, 8191] h x 0 j
      = ∑ w : Fin 8192, if hw : (j 3).val + w.val < 8192 then
          x (fun | ⟨0, _⟩ => j 0 | ⟨1, _⟩ => j 1 | ⟨2, _⟩ => j 2 | ⟨3, _⟩ => (⟨(j 3).val + w.val, hw⟩ : Fin 8192)) else 0 := by
  unfold Ideal.hostReduceWindowAdd Host.reduceWindow
  simp only []
  rw [foldl_finRange, zero_add]
  refine (Fintype.sum_equiv (winEquiv.trans Win.rowMajor) _ _ fun w => ?_).symm
  simp only [Equiv.trans_apply, Equiv.symm_apply_apply]
  by_cases hw : (j 3).val + w.val < 8192
  · rw [dif_pos hw, dif_pos]
    · congr 1
      funext a
      apply Fin.ext
      match a with
      | ⟨0, _⟩ => show (j 0).val = (j 0).val * 1 + 0 - 0; omega
      | ⟨1, _⟩ => show (j 1).val = (j 1).val * 1 + 0 - 0; omega
      | ⟨2, _⟩ => show (j 2).val = (j 2).val * 1 + 0 - 0; omega
      | ⟨3, _⟩ => show (j 3).val + w.val = (j 3).val * 1 + w.val - 0; omega
    · intro a
      refine ⟨?_, ?_⟩
      · match a with
        | ⟨0, _⟩ => exact Nat.zero_le _
        | ⟨1, _⟩ => exact Nat.zero_le _
        | ⟨2, _⟩ => exact Nat.zero_le _
        | ⟨3, _⟩ => exact Nat.zero_le _
      · match a with
        | ⟨0, _⟩ => have : (j 0).val < 4 := (j 0).isLt; show (j 0).val * 1 + 0 - 0 < 4; omega
        | ⟨1, _⟩ => have : (j 1).val < 8 := (j 1).isLt; show (j 1).val * 1 + 0 - 0 < 8; omega
        | ⟨2, _⟩ => have : (j 2).val < 8192 := (j 2).isLt; show (j 2).val * 1 + 0 - 0 < 8192; omega
        | ⟨3, _⟩ => show (j 3).val * 1 + w.val - 0 < 8192; omega
  · rw [dif_neg hw, dif_neg]
    intro hh
    have h3 : (j 3).val * 1 + w.val - 0 < 8192 := (hh 3).2
    omega

/-- A sum over the places at or right of `s` in a row of 8192, of which those right of row `t` count nothing. -/
theorem sum_right (f : ℕ → ℝ) (s t : ℕ) (ht : t ≤ 8192) :
    (∑ w : Fin 8192, if s + w.val < 8192 then (if s + w.val < t then f (s + w.val) else 0) else 0) = ∑ j ∈ Finset.Ico s t, f j := by
  rw [Fin.sum_univ_eq_sum_range (fun w => if s + w < 8192 then (if s + w < t then f (s + w) else 0) else 0) 8192,
    Finset.sum_Ico_eq_sum_range]
  have e : ∀ w ∈ Finset.range 8192, (if s + w < 8192 then (if s + w < t then f (s + w) else 0) else 0) = if s + w < t then f (s + w) else 0 := by
    intro w _
    split_ifs <;> first | rfl | omega
  rw [Finset.sum_congr rfl e, ← Finset.sum_filter]
  refine Finset.sum_congr ?_ fun _ _ => rfl
  ext w; simp only [Finset.mem_filter, Finset.mem_range]; omega

end Cert.Sb

end
-- ==== Proof.SbReference.lean ====
/- The reference of the stick-breaking attention, read operation by operation at real arguments: the scores, the
   logarithms of the two sigmoids, the sum over the columns right of one, the weights, and the gated result. -/
module

public import proofs.«01_k».proof.Proof.SbWindow
public import proofs.«01_k».proof.Proof.SbArray
public import proofs.«01_k».proof.Proof.Gen.ReferenceIdeal.Read
public import Idealize.ShloMosaic.Lib.Pointwise

@[expose] public section

set_option maxRecDepth 16384

noncomputable section

namespace Cert.Sb

open Cert.ReferenceIdeal Cert.ReferenceIdeal.Gen Cert.ReferenceIdeal.Read Idealize.ShloMosaic Idealize.ShloMosaic.TcCoe Idealize.SL.Sem

/-- `log_sigmoid` as the reference writes it: minus the softplus. -/
theorem neg_softplus (a : EReal) (z : ℝ) (ha : a = (z : EReal)) :
    (-(if a ≠ a then a else max a 0 + Ideal.log1p (Ideal.exp (-(FloatOps.absf (F := Ideal) (φ := .f32) a : EReal)))) : EReal) = ((-(sp z) : ℝ) : EReal) := by
  subst ha
  have h := sp_coe z
  rw [zero_sub] at h
  rw [if_neg (not_not.mpr rfl), Ideal.absf_def, Ideal.log1p, h, EReal.coe_neg]

/-- The word of zero. -/
theorem zero_word : (FloatOps.ofBits (F := Ideal) .f32 0#32 : EReal) = 0 := by pointwise

section
variable (x0 : (⟨S4x8192x9216, .bf16⟩ : BufTy).Contents (Elt Ideal)) (u : Fin 4 → ℕ → ℕ → ℝ)

/-- The scores of one row with every column. -/
def row (b : Fin 4) (h t : ℕ) : ℕ → ℝ :=
  score (fun e => u b t (5120 + 128 * h + e)) (fun s e => u b s (6144 + 128 * h + e))

variable (hu : ∀ i : S4x8192x9216.Idx, x0 i = (u (i 0) (i 1).val (i 2).val : EReal))
include hu

/-- An argument's element at an index given by its coordinates. -/
theorem read_arg (i : S4x8192x9216.Idx) (b : Fin 4) (s j : ℕ) (h0 : (i 0).val = b.val) (h1 : (i 1).val = s) (h2 : (i 2).val = j) :
    x0 i = (u b s j : EReal) := by
  rw [hu, h1, h2, show (i 0) = b from Fin.ext h0]

/-- The queries by head. -/
theorem q_apply (i : S4x8x8192x128.Idx) : (val_main_v3 (F := Ideal) x0 i : EReal) = (u (i 0) (i 2).val (5120 + 128 * (i 1).val + (i 3).val) : EReal) := by
  have h0 : (i 0).val < 4 := (i 0).isLt
  have h1 : (i 1).val < 8 := (i 1).isLt
  have h2 : (i 2).val < 8192 := (i 2).isLt
  have h3 : (i 3).val < 128 := (i 3).isLt
  rw [val_main_v3_apply, val_main_v2_apply, val_main_v1_apply, val_main_v0_apply]
  refine read_arg x0 u hu _ _ _ _ ?_ ?_ ?_
  · show ((((i 0).val * 8192 + (i 2).val) * 8 + (i 1).val) * 128 + (i 3).val) / 8388608 = _; omega
  · show ((((i 0).val * 8192 + (i 2).val) * 8 + (i 1).val) * 128 + (i 3).val) / 1024 % 8192 = _; omega
  · show 5120 + ((((i 0).val * 8192 + (i 2).val) * 8 + (i 1).val) * 128 + (i 3).val) % 1024 = _; omega

/-- The keys by head. -/
theorem k_apply (i : S4x8x8192x128.Idx) : (val_main_v6 (F := Ideal) x0 i : EReal) = (u (i 0) (i 2).val (6144 + 128 * (i 1).val + (i 3).val) : EReal) := by
  have h0 : (i 0).val < 4 := (i 0).isLt
  have h1 : (i 1).val < 8 := (i 1).isLt
  have h2 : (i 2).val < 8192 := (i 2).isLt
  have h3 : (i 3).val < 128 := (i 3).isLt
  rw [val_main_v6_apply, val_main_v5_apply, val_main_v4_apply, val_main_v0_apply]
  refine read_arg x0 u hu _ _ _ _ ?_ ?_ ?_
  · show ((((i 0).val * 8192 + (i 2).val) * 8 + (i 1).val) * 128 + (i 3).val) / 8388608 = _; omega
  · show ((((i 0).val * 8192 + (i 2).val) * 8 + (i 1).val) * 128 + (i 3).val) / 1024 % 8192 = _; omega
  · show 6144 + ((((i 0).val * 8192 + (i 2).val) * 8 + (i 1).val) * 128 + (i 3).val) % 1024 = _; omega

/-- The values by head. -/
theorem v_apply (i : S4x8x8192x128.Idx) : (val_main_v9 (F := Ideal) x0 i : EReal) = (u (i 0) (i 2).val (7168 + 128 * (i 1).val + (i 3).val) : EReal) := by
  have h0 : (i 0).val < 4 := (i 0).isLt
  have h1 : (i 1).val < 8 := (i 1).isLt
  have h2 : (i 2).val < 8192 := (i 2).isLt
  have h3 : (i 3).val < 128 := (i 3).isLt
  rw [val_main_v9_apply, val_main_v8_apply, val_main_v7_apply, val_main_v0_apply]
  refine read_arg x0 u hu _ _ _ _ ?_ ?_ ?_
  · show ((((i 0).val * 8192 + (i 2).val) * 8 + (i 1).val) * 128 + (i 3).val) / 8388608 = _; omega
  · show ((((i 0).val * 8192 + (i 2).val) * 8 + (i 1).val) * 128 + (i 3).val) / 1024 % 8192 = _; omega
  · show 7168 + ((((i 0).val * 8192 + (i 2).val) * 8 + (i 1).val) * 128 + (i 3).val) % 1024 = _; omega

/-- The scores. -/
theorem z_apply (i : S4x8x8192x8192.Idx) : (val_main_v11 (F := Ideal) x0 i : EReal) = (row u (i 0) (i 1).val (i 2).val (i 3).val : EReal) := by
  rw [val_main_v11_apply]
  unfold row score
  rw [coe_sum]
  refine Finset.sum_congr rfl fun e _ => ?_
  have hq : (val_main_v3 (F := Ideal) x0 (lidx_main_v11 i e) : EReal) = (u (i 0) (i 2).val (5120 + 128 * (i 1).val + e.val) : EReal) :=
    q_apply x0 u hu (lidx_main_v11 i e)
  have hk : (val_main_v6 (F := Ideal) x0 (ridx_main_v11 i e) : EReal) = (u (i 0) (i 3).val (6144 + 128 * (i 1).val + e.val) : EReal) :=
    k_apply x0 u hu (ridx_main_v11 i e)
  rw [hq, hk, EReal.coe_mul]

/-- `log (1 − β)`: minus the softplus of the score. -/
theorem log1m_apply (i : S4x8x8192x8192.Idx) :
    (val_main_v20 (F := Ideal) x0 i : EReal) = ((-(sp (row u (i 0) (i 1).val (i 2).val (i 3).val)) : ℝ) : EReal) := by
  have hz := z_apply x0 u hu i
  simp only [val_main_v20_apply, val_main_call0_v0_apply, val_main_call0_call0_cst_apply, val_main_call0_call0_v0_apply, val_main_call0_call0_v1_apply, val_main_call0_call0_v2_apply, val_main_call0_call0_v3_apply, val_main_call0_call0_v4_apply, val_main_call0_call0_v5_apply, val_main_call0_call0_v6_apply, val_main_call0_call0_v7_apply, val_main_call0_call0_v8_apply, val_main_call0_call0_v9_apply, val_main_call0_call0_v10_apply, val_main_call0_call0_v11_apply, val_main_call0_v1_apply, val_main_v19_apply]
  pointwise
  exact neg_softplus _ _ ((neg_neg _).trans hz)

/-- `log β`: the score less its softplus. -/
theorem log_apply (i : S4x8x8192x8192.Idx) :
    (val_main_v24 (F := Ideal) x0 i : EReal)
      = ((row u (i 0) (i 1).val (i 2).val (i 3).val - sp (row u (i 0) (i 1).val (i 2).val (i 3).val) : ℝ) : EReal) := by
  have hz := z_apply x0 u hu i
  simp only [val_main_v24_apply, val_main_call3_v0_apply, val_main_call3_call0_cst_apply, val_main_call3_call0_v0_apply, val_main_call3_call0_v1_apply, val_main_call3_call0_v2_apply, val_main_call3_call0_v3_apply, val_main_call3_call0_v4_apply, val_main_call3_call0_v5_apply, val_main_call3_call0_v6_apply, val_main_call3_call0_v7_apply, val_main_call3_call0_v8_apply, val_main_call3_call0_v9_apply, val_main_call3_call0_v10_apply, val_main_call3_call0_v11_apply, val_main_call3_v1_apply]
  pointwise
  refine (neg_softplus _ (-(row u (i 0) (i 1).val (i 2).val (i 3).val)) ?_).trans ?_
  · rw [EReal.coe_neg]; exact congrArg Neg.neg hz
  · rw [sp_neg]; congr 1; ring

omit hu in
/-- The strict lower triangle. -/
theorem mask_word (t s : ℕ) (ht : t < 8192) (hs : s < 8192) :
    IntOp.cmpi .slt (BitVec.ofNat 32 s) (BitVec.ofNat 32 t) = BitVec.ofBool (decide (s < t)) :=
  WordCmp.cmpi_slt_ofNat (by omega) (by omega)

omit hu in
/-- A choice by a comparison. -/
theorem select_decide {α : Type} (p : Prop) [Decidable p] (x y : α) : Scalar.select (BitVec.ofBool (decide p)) x y = if p then x else y := by
  unfold Scalar.select
  by_cases h : p <;> simp [h]

/-- The masked logarithms. -/
theorem masked_apply (i : S4x8x8192x8192.Idx) :
    (val_main_v21 (F := Ideal) x0 i : EReal)
      = ((if (i 3).val < (i 2).val then -(sp (row u (i 0) (i 1).val (i 2).val (i 3).val)) else 0 : ℝ) : EReal) := by
  have h := log1m_apply x0 u hu i
  simp only [val_main_v21_apply, val_main_call1_v1_apply, val_main_v18_apply, val_main_v16_apply, val_main_v13_apply, val_main_v12_apply, val_main_v17_apply, val_main_v15_apply, val_main_v14_apply, val_main_call1_v2_apply, val_main_call1_v0_apply, val_main_cst_apply]
  refine (congrArg (Scalar.select · _ _) (mask_word (i 2).val (i 3).val (i 2).isLt (i 3).isLt)).trans ?_
  rw [select_decide, coe_ite]
  by_cases hc : (i 3).val < (i 2).val
  · rw [if_pos hc, if_pos hc]; exact h
  · rw [if_neg hc, if_neg hc]; exact zero_word

/-- The sum over the columns at or right of one: minus what they take of the stick. -/
theorem after_apply (i : S4x8x8192x8192.Idx) :
    (val_main_v22 (F := Ideal) x0 i : EReal) = ((-(W (row u (i 0) (i 1).val (i 2).val) (i 2).val (i 3).val) : ℝ) : EReal) := by
  have h2 : (i 2).val < 8192 := (i 2).isLt
  have hinit : (val_main_call2_v0 (F := Ideal) (Shape.Idx.first h_S_) : EReal) = 0 := by
    rw [val_main_call2_v0_apply, val_main_call2_cst_apply]; exact zero_word
  unfold val_main_v22 Host.reduceWindowAdd
  rw [hinit]
  refine (window_apply _ (val_main_v21 (F := Ideal) x0) i).trans ?_
  have e := sum_right (fun s => -(sp (row u (i 0) (i 1).val (i 2).val s))) (i 3).val (i 2).val h2.le
  unfold W
  rw [← Finset.sum_neg_distrib, ← e, coe_sum]
  refine Finset.sum_congr rfl fun w _ => ?_
  by_cases hw : (i 3).val + w.val < 8192
  · rw [dif_pos hw, if_pos hw]
    exact masked_apply x0 u hu _
  · rw [dif_neg hw, if_neg hw, EReal.coe_zero]

/-- The weights. -/
theorem weight_apply (i : S4x8x8192x8192.Idx) :
    (val_main_v27 (F := Ideal) x0 i : EReal)
      = ((if (i 3).val < (i 2).val then A (row u (i 0) (i 1).val (i 2).val) (i 2).val (i 3).val else 0 : ℝ) : EReal) := by
  have ha := after_apply x0 u hu i
  have hm := masked_apply x0 u hu i
  have hl := log_apply x0 u hu i
  simp only [val_main_v27_apply, val_main_v26_apply, val_main_v25_apply, val_main_v23_apply, val_main_call4_v1_apply, val_main_v18_apply, val_main_v16_apply, val_main_v13_apply, val_main_v12_apply, val_main_v17_apply, val_main_v15_apply, val_main_v14_apply, val_main_call4_v2_apply, val_main_call4_v0_apply, val_main_cst_0_apply]
  refine (congrArg (Scalar.select · _ _) (mask_word (i 2).val (i 3).val (i 2).isLt (i 3).isLt)).trans ?_
  rw [select_decide, coe_ite]
  by_cases hc : (i 3).val < (i 2).val
  · rw [if_pos hc, if_pos hc]
    rw [if_pos hc] at hm
    show Ideal.exp ((val_main_v24 (F := Ideal) x0 i : EReal) + ((val_main_v22 (F := Ideal) x0 i : EReal) - (val_main_v21 (F := Ideal) x0 i : EReal))) = _
    rw [ha, hm, hl, ← EReal.coe_sub, ← EReal.coe_add, Ideal.exp_coe]
    exact congrArg (fun y : ℝ => ((Real.exp y : ℝ) : EReal)) (by ring)
  · rw [if_neg hc, if_neg hc]; exact zero_word

/-- The attention's result by head. -/
theorem att_apply (i : S4x8x8192x128.Idx) :
    (val_main_v28 (F := Ideal) x0 i : EReal)
      = (Out (row u (i 0) (i 1).val (i 2).val) (fun s => u (i 0) s (7168 + 128 * (i 1).val + (i 3).val)) (i 2).val 0 : EReal) := by
  have h2 : (i 2).val < 8192 := (i 2).isLt
  rw [val_main_v28_apply]
  have e := sum_right (fun s => A (row u (i 0) (i 1).val (i 2).val) (i 2).val s * u (i 0) s (7168 + 128 * (i 1).val + (i 3).val)) 0 (i 2).val h2.le
  unfold Out
  rw [← e, coe_sum]
  refine Finset.sum_congr rfl fun s _ => ?_
  have hw : (val_main_v27 (F := Ideal) x0 (lidx_main_v28 i s) : EReal)
      = ((if s.val < (i 2).val then A (row u (i 0) (i 1).val (i 2).val) (i 2).val s.val else 0 : ℝ) : EReal) :=
    weight_apply x0 u hu (lidx_main_v28 i s)
  have hv : (val_main_v9 (F := Ideal) x0 (ridx_main_v28 i s) : EReal) = (u (i 0) s.val (7168 + 128 * (i 1).val + (i 3).val) : EReal) :=
    v_apply x0 u hu (ridx_main_v28 i s)
  have hs : 0 + s.val < 8192 := by have := s.isLt; omega
  rw [hw, hv, ← EReal.coe_mul, if_pos hs, Nat.zero_add]
  by_cases hc : s.val < (i 2).val
  · rw [if_pos hc, if_pos hc]
  · rw [if_neg hc, if_neg hc, zero_mul]

omit hu in
/-- The word of one. -/
theorem one_word : (FloatOps.ofBits (F := Ideal) .f32 0x3F800000#32 : EReal) = 1 := Ideal.ofBits_one_f32

/-- The reference's result: the attention under its gate. -/
theorem reference_apply (i : S4x8192x1024.Idx) :
    (val_main_v33 (F := Ideal) x0 i : EReal) = (entry u (i 0) ((i 2).val / 128) (i 1).val ((i 2).val % 128) : EReal) := by
  have h0 : (i 0).val < 4 := (i 0).isLt
  have h1 : (i 1).val < 8192 := (i 1).isLt
  have h2 : (i 2).val < 1024 := (i 2).isLt
  have hg : (val_main_v10 (F := Ideal) x0 i : EReal) = (u (i 0) (i 1).val (8192 + (i 2).val) : EReal) := by
    rw [val_main_v10_apply, val_main_v0_apply]
    exact read_arg x0 u hu _ _ _ _ rfl rfl rfl
  have ho : (val_main_v30 (F := Ideal) x0 i : EReal)
      = (Out (row u (i 0) ((i 2).val / 128) (i 1).val) (fun s => u (i 0) s (7168 + 128 * ((i 2).val / 128) + (i 2).val % 128)) (i 1).val 0 : EReal) := by
    rw [val_main_v30_apply, val_main_v29_apply, att_apply x0 u hu]
    have e0 : ((idx_main_v29 (idx_main_v30 i)) 0) = i 0 := Fin.ext (by
      show (((i 0).val * 8192 + (i 1).val) * 1024 + (i 2).val) / 8388608 = _; omega)
    have e1 : ((idx_main_v29 (idx_main_v30 i)) 1).val = (i 2).val / 128 := by
      show (((i 0).val * 8192 + (i 1).val) * 1024 + (i 2).val) / 128 % 8 = _; omega
    have e2 : ((idx_main_v29 (idx_main_v30 i)) 2).val = (i 1).val := by
      show (((i 0).val * 8192 + (i 1).val) * 1024 + (i 2).val) / 1024 % 8192 = _; omega
    have e3 : ((idx_main_v29 (idx_main_v30 i)) 3).val = (i 2).val % 128 := by
      show (((i 0).val * 8192 + (i 1).val) * 1024 + (i 2).val) % 128 = _; omega
    rw [e0, e1, e2, e3]
  have h1' : (val_main_call5_v2 (F := Ideal) i : EReal) = 1 := by
    rw [val_main_call5_v2_apply, val_main_call5_cst_apply]; exact one_word
  have h2' : (val_main_call5_v4 (F := Ideal) i : EReal) = 1 := by
    rw [val_main_call5_v4_apply, val_main_call5_cst_0_apply]; exact one_word
  rw [val_main_v33_apply, val_main_v32_apply, val_main_v31_apply, val_main_call5_v5_apply, val_main_call5_v3_apply, val_main_call5_v1_apply, val_main_call5_v0_apply]
  generalize val_main_call5_v2 (F := Ideal) i = c1 at h1' ⊢
  generalize val_main_call5_v4 (F := Ideal) i = c2 at h2' ⊢
  generalize val_main_v30 (F := Ideal) x0 i = o at ho ⊢
  generalize val_main_v10 (F := Ideal) x0 i = g at hg ⊢
  pointwise
  rw [ho, hg, h1', h2', div_one_add_exp, ← EReal.coe_mul, ← EReal.coe_mul]
  have e : 8192 + 128 * ((i 2).val / 128) + (i 2).val % 128 = 8192 + (i 2).val := by omega
  unfold entry row silu
  rw [e]

end

end Cert.Sb

end
-- ==== Proof.SbFinite.lean ====
/- What the precondition says: every element of the projected rows is a real number. -/
module

public import proofs.«01_k».proof.Proof.SbMath
public import proofs.«01_k».proof.Pre_finite_u
public import Idealize.ShloMosaic.Lib.ReduceAll
public import Idealize.ShloMosaic.Lib.Pointwise

@[expose] public section

set_option maxRecDepth 16384

noncomputable section

namespace Cert.Sb

open Idealize.ShloMosaic Cert.Pre_finite_u

/-- The side conditions of the precondition's operations. -/
instance pre_facts : Cert.Pre_finite_u.Facts := ⟨by decide, by decide, by decide, by decide⟩

/-- An extended real whose absolute value is below infinity is a real. -/
theorem real_of_abs_lt {x : EReal} (h : max x (-x) < ⊤) : x = (x.toReal : EReal) := by
  induction x using EReal.rec with
  | bot => simp at h
  | top => simp at h
  | coe r => simp

/-- The comparison with infinity. -/
theorem lt_top_of_cmp {x : EReal} (h : FloatOps.cmpf (F := Ideal) (φ := .f32) .olt (FloatOps.hostAbsf (F := Ideal) (φ := .f32) x) (FloatOps.ofBits (F := Ideal) .f32 0x7F800000#32) = 1#1) :
    max x (-x) < ⊤ := by
  have e : (FloatOps.ofBits (F := Ideal) .f32 0x7F800000#32 : EReal) = ⊤ := by
    show Ideal.ofBits .f32 0x7F800000#32 = ⊤
    simp [Ideal.ofBits, Ideal.ieee]
  rw [e] at h
  have h' : BitVec.ofBool (decide (max x (-x) < (⊤ : EReal))) = 1#1 := h
  by_contra hc
  simp [hc] at h'

/-- Under the precondition every element is a real. -/
theorem real_of_pre (x : FVec Ideal S4x8192x9216 .bf16) (h : Cert.Pre_finite_u.fn (F := Ideal) x = fun _ => 1#1) (i : S4x8192x9216.Idx) :
    (x i : EReal) = (((x i : EReal).toReal : ℝ) : EReal) := by
  have hj := congrFun h (Shape.Idx.first (s := S_) (by decide))
  have : Subsingleton S_.Idx := ⟨fun a b => funext fun k => k.elim0⟩
  exact real_of_abs_lt (lt_top_of_cmp (Host.reduce_andi_all _ _ _ _ _ hj i))

end Cert.Sb

end
-- ==== Proof.SbEquation.lean ====
/- The stick-breaking attention: kernel and reference end with the same array. -/
module

public import proofs.«01_k».proof.Defs
public import proofs.«01_k».proof.Proof.SbArray
public import proofs.«01_k».proof.Proof.SbReference
public import proofs.«01_k».proof.Proof.SbFinite
public import proofs.«01_k».proof.Proof.Gen.KernelIdeal.Value
public import proofs.«01_k».proof.Proof.Gen.ReferenceIdeal.Run
public import proofs.«01_k».proof.Proof.Gen.ReferenceIdeal.Read

@[expose] public section

noncomputable section

namespace Cert.Sb

open Idealize.ShloMosaic Idealize.SL.Sem

/-- The real numbers an array of extended reals holds, by coordinates (zero outside the array). -/
def reals (x : FVec Ideal Cert.KernelIdeal.S4x8192x9216 .bf16) (b : Fin 4) (s j : ℕ) : ℝ :=
  if h : s < 8192 ∧ j < 9216 then (x (ix3 b ⟨s, h.1⟩ ⟨j, h.2⟩) : EReal).toReal else 0

/-- Under the precondition the array holds exactly those. -/
theorem reals_spec (x : FVec Ideal Cert.KernelIdeal.S4x8192x9216 .bf16) (h : Cert.Pre_finite_u.fn (F := Ideal) x = fun _ => 1#1)
    (b : Fin 4) (s : Fin 8192) (j : Fin 9216) : (x (ix3 b s j) : EReal) = (reals x b s j : EReal) := by
  unfold reals
  rw [dif_pos ⟨s.isLt, j.isLt⟩]
  exact real_of_pre x h _

/-- The reference is host code only: it uses no semaphore, and its argument stays. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Kernel and reference, from arrays of real numbers that agree, end with equal results. -/
theorem equation : Cert.algebraic_KernelIdeal_ReferenceIdeal_pre_finite_u := by
  intro m g m' g' hpre hagree
  have hm := fun c => reals_spec _ (hpre c)
  refine ⟨fun c => result (reals (m ((c.tc : Thread Cert.KernelIdeal.nD Cert.KernelIdeal.τ).loc Cert.KernelIdeal.main_arg0))), ?_, ?_⟩
  · refine (θ_run Cert.KernelIdeal.defs _ _).mono (fun r h c => ⟨(h c).1.trans ?_, (h c).2⟩) (Cert.KernelIdeal.Value.run_blocks (F := Ideal) m g)
    exact arr_eq m c _ (hm c)
  · refine (θ_run Cert.ReferenceIdeal.defs _ _).mono (fun r h c => ⟨(h c).1.trans ?_, (h c).2⟩) (Cert.ReferenceIdeal.Value.run (F := Ideal) m' g')
    rw [Cert.ReferenceIdeal.Read.val_main_v33_eq, hagree c]
    funext i
    refine reference_apply _ _ (fun j => ?_) i
    have e : j = ix3 (j 0) (j 1) (j 2) := by
      funext a
      match a with
      | ⟨0, _⟩ => rfl
      | ⟨1, _⟩ => rfl
      | ⟨2, _⟩ => rfl
    conv_lhs => rw [e]
    exact hm c (j 0) (j 1) (j 2)

end Cert.Sb

end
-- ==== Proof.Norm.lean ====
/- The root-mean-square normalisation of a row of 1024 numbers, over the extended reals, as both the kernels and the
   references compute it, and the sum of a row as the sum of its parts. -/
module

public import Idealize.ShloMosaic.Lib.Pointwise

@[expose] public section

noncomputable section

namespace Cert.Norm

open Idealize.ShloMosaic

/-- The row `y` over the root of its mean square (the number of columns, 1024, and the small constant added to the
    mean are the float constants both sides name), each column scaled by the gain `g`. -/
def norm (y g : Fin 1024 → EReal) (d : Fin 1024) : EReal :=
  y d * Ideal.rsqrt (Ideal.div (∑ x, y x * y x) (Ideal.ofBits FTy.f32 1149239296#32) + Ideal.ofBits FTy.f32 897988541#32) * g d

/-- A sum of 2048 terms is the sum of the first 1024 and the last 1024. -/
theorem sum_halves (f : Fin 2048 → EReal) :
    ∑ k, f k = (∑ k : Fin 1024, f ⟨k.val, by omega⟩) + ∑ k : Fin 1024, f ⟨1024 + k.val, by omega⟩ :=
  Fin.sum_univ_add (a := 1024) (b := 1024) f

end Cert.Norm

end
-- ==== Proof.OddMath.lean ====
/- The odd layers' trailing-window sums, as sums of numbers: how a doubled window is put together, and how a block of
   rows with the sixteen rows before it gives the same sums as the whole sequence. -/
module

public import proofs.«01_k».proof.Proof.Norm

@[expose] public section

noncomputable section

namespace Cert.Odd

open Idealize.ShloMosaic

/-- The sum of the last `w` terms of a sequence up to place `k`; before the sequence's start there is nothing. -/
def trail (w : ℕ) (f : ℕ → EReal) (k : ℕ) : EReal := ∑ j ∈ Finset.range w, if j ≤ k then f (k - j) else 0

/-- The sum of one term. -/
theorem trail_one (f : ℕ → EReal) (k : ℕ) : trail 1 f k = f k := by simp [trail]

/-- A window of twice the length is two windows, one behind the other. -/
theorem trail_double (w : ℕ) (f : ℕ → EReal) (k : ℕ) (h : w ≤ k) : trail (w + w) f k = trail w f k + trail w f (k - w) := by
  unfold trail
  rw [Finset.sum_range_add]
  congr 1
  refine Finset.sum_congr rfl fun j _ => ?_
  by_cases hj : w + j ≤ k
  · rw [if_pos hj, if_pos (by omega), Nat.sub_sub]
  · rw [if_neg hj, if_neg (by omega)]

/-- Sixteen terms followed by 512. -/
def joined (h : Fin 16 → EReal) (p : Fin 512 → EReal) (k : ℕ) : EReal :=
  if hk : k < 16 then h ⟨k, hk⟩ else if hp : k - 16 < 512 then p ⟨k - 16, hp⟩ else 0

/-- A row of numbers as a sequence. -/
def seq (p : Fin 8192 → EReal) (k : ℕ) : EReal := if h : k < 8192 then p ⟨k, h⟩ else 0

/-- The sixteen terms before block `i` of a sequence; before the first block they are zero. -/
def before (p : Fin 8192 → EReal) (i : ℕ) (k : Fin 16) : EReal := if i = 0 then 0 else seq p (512 * i - 16 + k.val)

/-- A window of at most sixteen terms that ends in block `i` sees only the block and the sixteen terms before it. -/
theorem trail_block (w : ℕ) (hw : w ≤ 16) (p : Fin 8192 → EReal) (i : ℕ) (r : Fin 512) :
    trail w (joined (before p i) fun x => seq p (512 * i + x.val)) (16 + r.val) = trail w (seq p) (512 * i + r.val) := by
  unfold trail
  refine Finset.sum_congr rfl fun j hj => ?_
  have hj := Finset.mem_range.1 hj
  have hr := r.isLt
  rw [if_pos (by omega)]
  unfold joined before
  by_cases h1 : 16 + r.val - j < 16
  · rw [dif_pos h1]
    by_cases h0 : i = 0
    · rw [if_pos h0, if_neg (by omega)]
    · rw [if_neg h0, if_pos (by omega)]
      congr 1; show 512 * i - 16 + (16 + r.val - j) = 512 * i + r.val - j; omega
  · rw [dif_neg h1, dif_pos (by omega), if_pos (by omega)]
    show seq p (512 * i + (16 + r.val - j - 16)) = seq p (512 * i + r.val - j)
    congr 1; omega

/-- The number of rows in a window of length `w` that ends at row `t`, as both sides compute it: the smaller of `t + 1`
    and `w`, as a float. -/
def count (w : BitVec 32) (t : ℕ) : EReal :=
  FloatOps.sitofp (F := Ideal) FTy.f32 (IntOp.minsi (IntOp.addi (BitVec.ofNat 32 t) 1#32) w)

/-- One column of a group after mixing and gating: `tot` the window sums, `n` the number of rows in the window, `p` the
    row itself, `pw` the group's mixing matrix, `s` the column's scale, `z` the column of the gate. -/
def gated (tot : Fin 512 → EReal) (n : EReal) (p : Fin 512 → EReal) (pw : Fin 512 → EReal) (s z : EReal) : EReal :=
  (∑ x, (Ideal.div (tot x) n - p x) * pw x) * s * (z * Ideal.div 1 (1 + Ideal.exp (0 - z)))

/-- A sum of 2048 terms is the sum of four sums of 512. -/
theorem sum_quarters (f : Fin 2048 → EReal) :
    ∑ k, f k = (((∑ k : Fin 512, f ⟨k.val, by omega⟩) + ∑ k : Fin 512, f ⟨512 + k.val, by omega⟩)
      + ∑ k : Fin 512, f ⟨1024 + k.val, by omega⟩) + ∑ k : Fin 512, f ⟨1536 + k.val, by omega⟩ := by
  have h3 := Fin.sum_univ_add (a := 1536) (b := 512) f
  have h2 := Fin.sum_univ_add (a := 1024) (b := 512) fun k => f (Fin.castAdd 512 k)
  have h1 := Fin.sum_univ_add (a := 512) (b := 512) fun k => f (Fin.castAdd 512 (Fin.castAdd 512 k))
  exact h3.trans (congrArg (· + _) (h2.trans (congrArg (· + _) h1)))

end Cert.Odd

end
-- ==== Proof.OddBlock.lean ====
/- The arithmetic of one grid point of the odd layer, operation by operation, as formulas over the extended reals. -/
module

public import proofs.«01_k».proof.Proof.OddMath
public import proofs.«01_k».proof.Proof.Gen.Kernel2Ideal.Skeleton
public import Idealize.ShloMosaic.Lib.Pointwise

@[expose] public section

set_option maxRecDepth 16384

noncomputable section

namespace Cert.Odd

open Cert.Kernel2Ideal Cert.Kernel2Ideal.Gen Idealize.ShloMosaic

variable (X : Vec Ideal S1x512x1024 .f32) (G : Vec Ideal S1x1024 .f32) (H : FVec Ideal S512x1024 .bf16)
  (T : IVec S512x1 32) (W Z : Vec Ideal S1024x512 .bf16) (P : FVec Ideal S512x512 .f32) (L : Vec Ideal S16x512 .f32)
  (M : Vec Ideal S1x512x512 .bf16) (S : Vec Ideal S1x512 .f32) (O : Vec Ideal S512x1024 .bf16) (Y : FVec Ideal S512x1024 .f32)

/-- The normalised rows. -/
theorem pay4_apply (r : Fin 512) (k : Fin 1024) :
    k0_pay4 X G (ix2 r k) = Norm.norm (fun e => X (ix3 0 r e)) (fun e => G (ix2 0 e)) k := by
  unfold Norm.norm
  pointwise [k0_pay4, k0_pay3]

/-- The rows' numbers in the sequence. -/
theorem pay5_apply (i : grid0.Coords) (r : Fin 512) : k0_pay5 i (ix2 r 0) = BitVec.ofNat 32 (512 * (i 1).val + r.val) := by
  have e : k0_pay5 i (ix2 r 0) = BitVec.ofNat 32 (i 1).val * 512#32 + BitVec.ofNat 32 r.val := by
    pointwise [k0_pay5]
    rfl
  rw [e, BitVec.ofNat_add, BitVec.ofNat_mul, BitVec.mul_comm]

/-- A row's product with a column of a matrix. -/
abbrev dot (r : Fin 512) (x : Fin 512) : EReal := ∑ k : Fin 1024, H (ix2 r k) * W (ix2 k x)

theorem pay7_apply (r x : Fin 512) : k0_pay7 X G W (ix2 r x) = dot (k0_pay4 X G) W r x := by
  unfold dot k0_pay7
  generalize k0_pay4 X G = H
  pointwise

theorem pay11_apply (r x : Fin 512) : k0_pay11 H W (ix2 r x) = dot H W r x := by
  unfold dot; pointwise [k0_pay11]

theorem pay15_apply (r x : Fin 512) : k0_pay15 H W (ix2 r x) = dot H W r x := by
  unfold dot; pointwise [k0_pay15]

theorem pay20_apply (r x : Fin 512) : k0_pay20 H W (ix2 r x) = dot H W r x := by
  unfold dot; pointwise [k0_pay20]

/-- The last sixteen rows, kept for the next block. -/
theorem pay8_apply (k : Fin 16) (x : Fin 512) : k0_pay8 X G W (ix2 k x) = k0_pay7 X G W (ix2 ⟨496 + k.val, by omega⟩ x) := by
  unfold k0_pay8
  generalize k0_pay7 X G W = P
  pointwise

theorem pay12_apply (k : Fin 16) (x : Fin 512) : k0_pay12 P (ix2 k x) = P (ix2 ⟨496 + k.val, by omega⟩ x) := by
  pointwise [k0_pay12]

theorem pay16_apply (k : Fin 16) (x : Fin 512) : k0_pay16 H W (ix2 k x) = k0_pay15 H W (ix2 ⟨496 + k.val, by omega⟩ x) := by
  unfold k0_pay16
  generalize k0_pay15 H W = P
  pointwise

theorem pay21_apply (k : Fin 16) (x : Fin 512) : k0_pay21 H W (ix2 k x) = k0_pay20 H W (ix2 ⟨496 + k.val, by omega⟩ x) := by
  unfold k0_pay21
  generalize k0_pay20 H W = P
  pointwise

/-- A block with the sixteen rows before it, column by column. -/
abbrev column (x : Fin 512) : ℕ → EReal := joined (fun k => L (ix2 k x)) fun r => P (ix2 r x)

theorem concat_apply (k : Fin 528) (x : Fin 512) :
    (concatenate S528x512 0 [⟨S16x512, L⟩, ⟨S512x512, P⟩] concatenates_S16x512_S512x512_S528x512_d0 : FVec Ideal S528x512 .f32) (ix2 k x)
      = column P L x k.val := by
  have hk := k.isLt
  unfold column joined
  by_cases h : k.val < 16
  · rw [dif_pos h]; pointwise; rw [dif_pos h]
  · rw [dif_neg h, dif_pos (by omega)]; pointwise; rw [dif_neg h]

/-- Adding to each row the row `w` before it turns window sums of length `w` into window sums of length `2 w`, except in
    the first rows, where the rotation brings in the end of the array. -/
theorem rotate_step (w : ℕ) (b : BitVec 32) (hb : b.toNat = w) (hw : 0 < w ∧ w ≤ 8) (v : FVec Ideal S528x512 .f32) (f : ℕ → EReal) (x : Fin 512)
    (hv : ∀ k : Fin 528, w ≤ k.val + 1 → v (ix2 k x) = trail w f k.val) (k : Fin 528) (hk : w + w ≤ k.val + 1) :
    (addf v (dynamicRotate 0 b none v rotates_S528x512_d0) : FVec Ideal S528x512 .f32) (ix2 k x) = trail (w + w) f k.val := by
  have hkk := k.isLt
  rw [trail_double w f k.val (by omega), ← hv k (by omega), ← hv ⟨k.val - w, by omega⟩ (by show w ≤ k.val - w + 1; omega)]
  show v (ix2 k x) + dynamicRotate 0 b none v rotates_S528x512_d0 (ix2 k x) = _
  refine congrArg (v (ix2 k x) + ·) (congrArg v (funext fun a => Fin.ext ?_))
  match a with
  | ⟨0, _⟩ => show (k.val + 528 - b.toNat % 528) % 528 = k.val - w; omega
  | ⟨1, _⟩ => rfl

/-- Rows and the rows before them, added. -/
abbrev twice (b : BitVec 32) (v : FVec Ideal S528x512 .f32) : FVec Ideal S528x512 .f32 :=
  addf v (dynamicRotate 0 b none v rotates_S528x512_d0)

/-- A block under the sixteen rows before it, as the kernel puts them together. -/
abbrev stack : FVec Ideal S528x512 .f32 :=
  concatenate S528x512 0 [⟨S16x512, L⟩, ⟨S512x512, P⟩] concatenates_S16x512_S512x512_S528x512_d0

theorem twice1 (x : Fin 512) (k : Fin 528) (hk : 2 ≤ k.val + 1) : twice 1#32 (stack P L) (ix2 k x) = trail 2 (column P L x) k.val :=
  rotate_step 1 1#32 rfl ⟨by omega, by omega⟩ _ _ x (fun k _ => by rw [trail_one]; exact concat_apply P L k x) k hk

theorem twice2 (x : Fin 512) (k : Fin 528) (hk : 4 ≤ k.val + 1) :
    twice 2#32 (twice 1#32 (stack P L)) (ix2 k x) = trail 4 (column P L x) k.val :=
  rotate_step 2 2#32 rfl ⟨by omega, by omega⟩ _ _ x (twice1 P L x) k hk

theorem twice4 (x : Fin 512) (k : Fin 528) (hk : 8 ≤ k.val + 1) :
    twice 4#32 (twice 2#32 (twice 1#32 (stack P L))) (ix2 k x) = trail 8 (column P L x) k.val :=
  rotate_step 4 4#32 rfl ⟨by omega, by omega⟩ _ _ x (twice2 P L x) k hk

theorem twice8 (x : Fin 512) (k : Fin 528) (hk : 16 ≤ k.val + 1) :
    twice 8#32 (twice 4#32 (twice 2#32 (twice 1#32 (stack P L)))) (ix2 k x) = trail 16 (column P L x) k.val :=
  rotate_step 8 8#32 rfl ⟨by omega, by omega⟩ _ _ x (twice4 P L x) k hk

/-- A group's mixed and gated column at a row of the block: `tot` the window sums, `n` the number of rows in the window. -/
abbrev gatedAt (tot : Fin 512 → EReal) (n : EReal) (r x : Fin 512) : EReal :=
  gated tot n (fun x => P (ix2 r x)) (fun k => M (ix3 0 k x)) (S (ix2 0 x)) (dot H Z r x)

/-- The first group, added to what was there. -/
theorem pay10_apply (r : Fin 512) (d : Fin 1024) (n : EReal)
    (hn : FloatOps.sitofp (F := Ideal) FTy.f32 (IntOp.minsi (IntOp.addi (T (ix2 r 0)) 1#32) 2#32) = n) :
    k0_pay10 H T Y P (twice 1#32 (stack P L)) M S Z O (ix2 r d)
      = Y (ix2 r d) + ∑ x, gatedAt H Z P M S (fun x => trail 2 (column P L x) (16 + r.val)) n r x * O (ix2 x d) := by
  have hr := r.isLt
  have ht : ∀ x, twice 1#32 (stack P L) (ix2 ⟨16 + r.val, by omega⟩ x) = trail 2 (column P L x) (16 + r.val) := fun x =>
    twice1 P L x ⟨16 + r.val, by omega⟩ (by show 2 ≤ 16 + r.val + 1; omega)
  generalize twice 1#32 (stack P L) = R at ht ⊢
  unfold gatedAt gated dot
  pointwise [k0_pay10]
  simp only [ht, hn]

theorem pay9_eq : k0_pay9 X G W L = twice 1#32 (stack (k0_pay7 X G W) L) := rfl

/-- The second group's columns. -/
theorem pay13_apply (r : Fin 512) (x : Fin 512) (n : EReal)
    (hn : FloatOps.sitofp (F := Ideal) FTy.f32 (IntOp.minsi (IntOp.addi (T (ix2 r 0)) 1#32) 4#32) = n) :
    k0_pay13 H T P L M S Z (ix2 r x) = gatedAt H Z P M S (fun x => trail 4 (column P L x) (16 + r.val)) n r x := by
  have hr := r.isLt
  have ht : ∀ x, twice 2#32 (twice 1#32 (stack P L)) (ix2 ⟨16 + r.val, by omega⟩ x) = trail 4 (column P L x) (16 + r.val) := fun x =>
    twice2 P L x ⟨16 + r.val, by omega⟩ (by show 4 ≤ 16 + r.val + 1; omega)
  dsimp only [twice, stack] at ht
  dsimp only [k0_pay13]
  generalize (concatenate S528x512 0 [⟨S16x512, L⟩, ⟨S512x512, P⟩] concatenates_S16x512_S512x512_S528x512_d0 : FVec Ideal S528x512 .f32) = C at ht ⊢
  generalize (addf C (dynamicRotate 0 1#32 none C rotates_S528x512_d0) : FVec Ideal S528x512 .f32) = C1 at ht ⊢
  generalize (addf C1 (dynamicRotate 0 2#32 none C1 rotates_S528x512_d0) : FVec Ideal S528x512 .f32) = C2 at ht ⊢
  unfold gatedAt gated dot
  pointwise
  simp only [ht, hn]

/-- A group's columns against its rows of the second projection, added to what was there. -/
theorem pay14_apply (B : FVec Ideal S512x512 .bf16) (r : Fin 512) (d : Fin 1024) :
    k0_pay14 Y B O (ix2 r d) = Y (ix2 r d) + ∑ x : Fin 512, B (ix2 r x) * O (ix2 x d) := by
  pointwise [k0_pay14]

/-- The third group's mixed columns, before the gate. -/
theorem pay17_apply (r : Fin 512) (x : Fin 512) (n : EReal)
    (hn : FloatOps.sitofp (F := Ideal) FTy.f32 (IntOp.minsi (IntOp.addi (T (ix2 r 0)) 1#32) 8#32) = n) :
    k0_pay17 H T W L M S (ix2 r x)
      = (∑ y, (Ideal.div (trail 8 (column (k0_pay15 H W) L y) (16 + r.val)) n - k0_pay15 H W (ix2 r y)) * M (ix3 0 y x)) * S (ix2 0 x) := by
  have hr := r.isLt
  dsimp only [k0_pay17]
  generalize k0_pay15 H W = P
  have ht : ∀ x, twice 4#32 (twice 2#32 (twice 1#32 (stack P L))) (ix2 ⟨16 + r.val, by omega⟩ x) = trail 8 (column P L x) (16 + r.val) := fun x =>
    twice4 P L x ⟨16 + r.val, by omega⟩ (by show 8 ≤ 16 + r.val + 1; omega)
  dsimp only [twice, stack] at ht
  generalize (concatenate S528x512 0 [⟨S16x512, L⟩, ⟨S512x512, P⟩] concatenates_S16x512_S512x512_S528x512_d0 : FVec Ideal S528x512 .f32) = C at ht ⊢
  generalize (addf C (dynamicRotate 0 1#32 none C rotates_S528x512_d0) : FVec Ideal S528x512 .f32) = C1 at ht ⊢
  generalize (addf C1 (dynamicRotate 0 2#32 none C1 rotates_S528x512_d0) : FVec Ideal S528x512 .f32) = C2 at ht ⊢
  generalize (addf C2 (dynamicRotate 0 4#32 none C2 rotates_S528x512_d0) : FVec Ideal S528x512 .f32) = C4 at ht ⊢
  pointwise
  simp only [ht, hn]

/-- The third group, gated and added. -/
theorem pay19_apply (P : FVec Ideal S512x512 .f32) (r : Fin 512) (d : Fin 1024) :
    k0_pay19 H Y P (k0_pay18 Z) O (ix2 r d)
      = Y (ix2 r d) + ∑ x, P (ix2 r x) * (dot H Z r x * Ideal.div 1 (1 + Ideal.exp (0 - dot H Z r x))) * O (ix2 x d) := by
  unfold dot
  pointwise [k0_pay19, k0_pay18]

/-- The fourth group's window sums. -/
theorem pay22_apply (r x : Fin 512) : k0_pay22 H W L (ix2 r x) = trail 16 (column (k0_pay20 H W) L x) (16 + r.val) := by
  have hr := r.isLt
  dsimp only [k0_pay22]
  generalize k0_pay20 H W = P
  have ht : twice 8#32 (twice 4#32 (twice 2#32 (twice 1#32 (stack P L)))) (ix2 ⟨16 + r.val, by omega⟩ x) = trail 16 (column P L x) (16 + r.val) :=
    twice8 P L x ⟨16 + r.val, by omega⟩ (by show 16 ≤ 16 + r.val + 1; omega)
  dsimp only [twice, stack] at ht
  generalize (concatenate S528x512 0 [⟨S16x512, L⟩, ⟨S512x512, P⟩] concatenates_S16x512_S512x512_S528x512_d0 : FVec Ideal S528x512 .f32) = C at ht ⊢
  generalize (addf C (dynamicRotate 0 1#32 none C rotates_S528x512_d0) : FVec Ideal S528x512 .f32) = C1 at ht ⊢
  generalize (addf C1 (dynamicRotate 0 2#32 none C1 rotates_S528x512_d0) : FVec Ideal S528x512 .f32) = C2 at ht ⊢
  generalize (addf C2 (dynamicRotate 0 4#32 none C2 rotates_S528x512_d0) : FVec Ideal S528x512 .f32) = C4 at ht ⊢
  generalize (addf C4 (dynamicRotate 0 8#32 none C4 rotates_S528x512_d0) : FVec Ideal S528x512 .f32) = C8 at ht ⊢
  rw [← ht]
  pointwise

/-- The fourth group's numbers of rows. -/
theorem pay23_apply (r x : Fin 512) (n : EReal)
    (hn : FloatOps.sitofp (F := Ideal) FTy.f32 (IntOp.minsi (IntOp.addi (T (ix2 r 0)) 1#32) 16#32) = n) :
    (k0_pay23 T : FVec Ideal S512x512 .f32) (ix2 r x) = n := by
  rw [← hn]
  pointwise [k0_pay23]

/-- The fourth group, added; then the row over the root of its mean square. -/
theorem pay24_apply (A N : FVec Ideal S512x512 .f32) (r : Fin 512) (n : EReal) (hn : ∀ x, N (ix2 r x) = n) (g : Fin 1024 → EReal) (d : Fin 1024) :
    k0_pay24 H Y P A N M S Z O (ix2 r d) * g d
      = Norm.norm (fun e => Y (ix2 r e) + ∑ x, gatedAt H Z P M S (fun x => A (ix2 r x)) n r x * O (ix2 x e)) g d := by
  unfold gatedAt gated dot Norm.norm
  pointwise [k0_pay24]
  simp only [hn]

/-- What a grid point stores. -/
theorem pay1_apply (X : Vec Ideal S1x512x1024 .f32) (Y : FVec Ideal S512x1024 .f32) (G : Vec Ideal S1x1024 .f32) (r : Fin 512) (d : Fin 1024) :
    k0_pay1 (k0_pay3 X) Y (k0_pay25 G) (ix3 0 r d) = X (ix3 0 r d) + Y (ix2 r d) * G (ix2 0 d) := by
  pointwise [k0_pay1, k0_pay3, k0_pay25]

end Cert.Odd

end
-- ==== Proof.OddPoint.lean ====
/- One grid point of the odd layer: 512 rows of one batch row, with the sixteen rows of the first projection that came
   before them. What the point stores is the layer's rows. -/
module

public import proofs.«01_k».proof.Proof.OddBlock

@[expose] public section

set_option maxRecDepth 16384

noncomputable section

namespace Cert.Odd

open Cert.Kernel2Ideal Cert.Kernel2Ideal.Gen Idealize.ShloMosaic

/-- Column `y` of group `g` among the 2048. -/
def col (g : Fin 4) (y : Fin 512) : Fin 2048 := ⟨512 * g.val + y.val, by omega⟩

/-- A column of the first projection as a column of its weight, and the gate's column beside it. -/
abbrev left (c : Fin 2048) : Fin 4096 := ⟨c.val, by omega⟩
abbrev right (c : Fin 2048) : Fin 4096 := ⟨2048 + c.val, by omega⟩

section Layer
variable (x : Fin 8192 → Fin 1024 → EReal) (g1 : Fin 1024 → EReal) (wi : Fin 1024 → Fin 4096 → EReal)
  (pw : Fin 4 → Fin 512 → Fin 512 → EReal) (ps : Fin 2048 → EReal) (wo : Fin 2048 → Fin 1024 → EReal) (g2 : Fin 1024 → EReal)

/-- The first projection of the normalised rows. -/
def proj (c : Fin 4096) (t : Fin 8192) : EReal := ∑ k, Norm.norm (x t) g1 k * wi k c

/-- Column `c` of group `g`, pooled over the last `w` rows, mixed and gated. -/
def mixed (g : Fin 4) (w : ℕ) (b : BitVec 32) (t : Fin 8192) (c : Fin 512) : EReal :=
  gated (fun y => trail w (seq (proj x g1 wi (left (col g y)))) t.val) (count b t.val) (fun y => proj x g1 wi (left (col g y)) t)
    (fun y => pw g y c) (ps (col g c)) (proj x g1 wi (right (col g c)) t)

/-- One group's share of the second projection. -/
def share (g : Fin 4) (w : ℕ) (b : BitVec 32) (t : Fin 8192) (d : Fin 1024) : EReal :=
  ∑ c, mixed x g1 wi pw ps g w b t c * wo (col g c) d

/-- One element of the layer's result for one batch row. -/
def entry (t : Fin 8192) (d : Fin 1024) : EReal :=
  x t d + Norm.norm (fun e => ((share x g1 wi pw ps wo 0 2 2#32 t e + share x g1 wi pw ps wo 1 4 4#32 t e)
    + share x g1 wi pw ps wo 2 8 8#32 t e) + share x g1 wi pw ps wo 3 16 16#32 t e) g2 d

end Layer

section Loads
variable (V : Vec Ideal S1024x2048 .bf16) (M : Vec Ideal S4x512x512 .bf16) (S : Vec Ideal S1x2048 .f32) (O : Vec Ideal S2048x1024 .bf16)

/-! The parts of the weights that a group takes. -/

theorem wp0_apply (k : Fin 1024) (y : Fin 512) : (View.ld V (Rect.unit ![0, 0] ![1024, 512] inb_S1024x2048_S1024x512_0_0)) (ix2 k y) = V (ix2 k (col 0 y)) :=
  congrArg V (funext fun a => Fin.ext (match a with
    | ⟨0, _⟩ => (show 0 + 1 * k.val = k.val by omega)
    | ⟨1, _⟩ => (show 0 + 1 * y.val = 512 * 0 + y.val by omega)))

theorem m0_apply (k y : Fin 512) : (View.ld M (Rect.unit ![0, 0, 0] ![1, 512, 512] inb_S4x512x512_S1x512x512_0_0_0)) (ix3 0 k y : S1x512x512.Idx) = M (ix3 0 k y) :=
  congrArg M (funext fun a => Fin.ext (match a with
    | ⟨0, _⟩ => rfl
    | ⟨1, _⟩ => (show 0 + 1 * k.val = k.val by omega)
    | ⟨2, _⟩ => (show 0 + 1 * y.val = y.val by omega)))

theorem s0_apply (y : Fin 512) : (View.ld S (Rect.unit ![0, 0] ![1, 512] inb_S1x2048_S1x512_0_0)) (ix2 0 y : S1x512.Idx) = S (ix2 0 (col 0 y)) :=
  congrArg S (funext fun a => Fin.ext (match a with
    | ⟨0, _⟩ => rfl
    | ⟨1, _⟩ => (show 0 + 1 * y.val = 512 * 0 + y.val by omega)))

theorem o0_apply (y : Fin 512) (d : Fin 1024) : (View.ld O (Rect.unit ![0, 0] ![512, 1024] inb_S2048x1024_S512x1024_0_0)) (ix2 y d) = O (ix2 (col 0 y) d) :=
  congrArg O (funext fun a => Fin.ext (match a with
    | ⟨0, _⟩ => (show 0 + 1 * y.val = 512 * 0 + y.val by omega)
    | ⟨1, _⟩ => (show 0 + 1 * d.val = d.val by omega)))

theorem wp1_apply (k : Fin 1024) (y : Fin 512) : (View.ld V (Rect.unit ![0, 512] ![1024, 512] inb_S1024x2048_S1024x512_0_512)) (ix2 k y) = V (ix2 k (col 1 y)) :=
  congrArg V (funext fun a => Fin.ext (match a with
    | ⟨0, _⟩ => (show 0 + 1 * k.val = k.val by omega)
    | ⟨1, _⟩ => (show 512 + 1 * y.val = 512 * 1 + y.val by omega)))

theorem m1_apply (k y : Fin 512) : (View.ld M (Rect.unit ![1, 0, 0] ![1, 512, 512] inb_S4x512x512_S1x512x512_1_0_0)) (ix3 0 k y : S1x512x512.Idx) = M (ix3 1 k y) :=
  congrArg M (funext fun a => Fin.ext (match a with
    | ⟨0, _⟩ => rfl
    | ⟨1, _⟩ => (show 0 + 1 * k.val = k.val by omega)
    | ⟨2, _⟩ => (show 0 + 1 * y.val = y.val by omega)))

theorem s1_apply (y : Fin 512) : (View.ld S (Rect.unit ![0, 512] ![1, 512] inb_S1x2048_S1x512_0_512)) (ix2 0 y : S1x512.Idx) = S (ix2 0 (col 1 y)) :=
  congrArg S (funext fun a => Fin.ext (match a with
    | ⟨0, _⟩ => rfl
    | ⟨1, _⟩ => (show 512 + 1 * y.val = 512 * 1 + y.val by omega)))

theorem o1_apply (y : Fin 512) (d : Fin 1024) : (View.ld O (Rect.unit ![512, 0] ![512, 1024] inb_S2048x1024_S512x1024_512_0)) (ix2 y d) = O (ix2 (col 1 y) d) :=
  congrArg O (funext fun a => Fin.ext (match a with
    | ⟨0, _⟩ => (show 512 + 1 * y.val = 512 * 1 + y.val by omega)
    | ⟨1, _⟩ => (show 0 + 1 * d.val = d.val by omega)))

theorem wp2_apply (k : Fin 1024) (y : Fin 512) : (View.ld V (Rect.unit ![0, 1024] ![1024, 512] inb_S1024x2048_S1024x512_0_1024)) (ix2 k y) = V (ix2 k (col 2 y)) :=
  congrArg V (funext fun a => Fin.ext (match a with
    | ⟨0, _⟩ => (show 0 + 1 * k.val = k.val by omega)
    | ⟨1, _⟩ => (show 1024 + 1 * y.val = 512 * 2 + y.val by omega)))

theorem m2_apply (k y : Fin 512) : (View.ld M (Rect.unit ![2, 0, 0] ![1, 512, 512] inb_S4x512x512_S1x512x512_2_0_0)) (ix3 0 k y : S1x512x512.Idx) = M (ix3 2 k y) :=
  congrArg M (funext fun a => Fin.ext (match a with
    | ⟨0, _⟩ => rfl
    | ⟨1, _⟩ => (show 0 + 1 * k.val = k.val by omega)
    | ⟨2, _⟩ => (show 0 + 1 * y.val = y.val by omega)))

theorem s2_apply (y : Fin 512) : (View.ld S (Rect.unit ![0, 1024] ![1, 512] inb_S1x2048_S1x512_0_1024)) (ix2 0 y : S1x512.Idx) = S (ix2 0 (col 2 y)) :=
  congrArg S (funext fun a => Fin.ext (match a with
    | ⟨0, _⟩ => rfl
    | ⟨1, _⟩ => (show 1024 + 1 * y.val = 512 * 2 + y.val by omega)))

theorem o2_apply (y : Fin 512) (d : Fin 1024) : (View.ld O (Rect.unit ![1024, 0] ![512, 1024] inb_S2048x1024_S512x1024_1024_0)) (ix2 y d) = O (ix2 (col 2 y) d) :=
  congrArg O (funext fun a => Fin.ext (match a with
    | ⟨0, _⟩ => (show 1024 + 1 * y.val = 512 * 2 + y.val by omega)
    | ⟨1, _⟩ => (show 0 + 1 * d.val = d.val by omega)))

theorem wp3_apply (k : Fin 1024) (y : Fin 512) : (View.ld V (Rect.unit ![0, 1536] ![1024, 512] inb_S1024x2048_S1024x512_0_1536)) (ix2 k y) = V (ix2 k (col 3 y)) :=
  congrArg V (funext fun a => Fin.ext (match a with
    | ⟨0, _⟩ => (show 0 + 1 * k.val = k.val by omega)
    | ⟨1, _⟩ => (show 1536 + 1 * y.val = 512 * 3 + y.val by omega)))

theorem m3_apply (k y : Fin 512) : (View.ld M (Rect.unit ![3, 0, 0] ![1, 512, 512] inb_S4x512x512_S1x512x512_3_0_0)) (ix3 0 k y : S1x512x512.Idx) = M (ix3 3 k y) :=
  congrArg M (funext fun a => Fin.ext (match a with
    | ⟨0, _⟩ => rfl
    | ⟨1, _⟩ => (show 0 + 1 * k.val = k.val by omega)
    | ⟨2, _⟩ => (show 0 + 1 * y.val = y.val by omega)))

theorem s3_apply (y : Fin 512) : (View.ld S (Rect.unit ![0, 1536] ![1, 512] inb_S1x2048_S1x512_0_1536)) (ix2 0 y : S1x512.Idx) = S (ix2 0 (col 3 y)) :=
  congrArg S (funext fun a => Fin.ext (match a with
    | ⟨0, _⟩ => rfl
    | ⟨1, _⟩ => (show 1536 + 1 * y.val = 512 * 3 + y.val by omega)))

theorem o3_apply (y : Fin 512) (d : Fin 1024) : (View.ld O (Rect.unit ![1536, 0] ![512, 1024] inb_S2048x1024_S512x1024_1536_0)) (ix2 y d) = O (ix2 (col 3 y) d) :=
  congrArg O (funext fun a => Fin.ext (match a with
    | ⟨0, _⟩ => (show 1536 + 1 * y.val = 512 * 3 + y.val by omega)
    | ⟨1, _⟩ => (show 0 + 1 * d.val = d.val by omega)))

end Loads

section Point
variable (x : Fin 8192 → Fin 1024 → EReal) (g1 : Fin 1024 → EReal) (wi : Fin 1024 → Fin 4096 → EReal)
  (pw : Fin 4 → Fin 512 → Fin 512 → EReal) (ps : Fin 2048 → EReal) (wo : Fin 2048 → Fin 1024 → EReal) (g2 : Fin 1024 → EReal)
  (i : grid0.Coords)
  (X : Vec Ideal S1x512x1024 .f32) (G1 : Vec Ideal S1x1024 .f32) (WP WZ : Vec Ideal S1024x2048 .bf16) (M : Vec Ideal S4x512x512 .bf16)
  (S : Vec Ideal S1x2048 .f32) (O : Vec Ideal S2048x1024 .bf16) (G2 : Vec Ideal S1x1024 .f32)
  (L0 L1 L2 L3 : Vec Ideal S16x512 .f32)

/-- Row `r` of the point's block in the batch row. -/
def place (r : Fin 512) : Fin 8192 := ⟨512 * (i 1).val + r.val, by have : (i 1).val < 16 := (i 1).isLt; omega⟩

/-- The rows' products with a part of a weight are the first projection's columns. -/
theorem dot_eq (hX : ∀ r k, X (ix3 0 r k) = x (place i r) k) (hG : ∀ k, G1 (ix2 0 k) = g1 k) (W : Vec Ideal S1024x512 .bf16)
    (c : Fin 512 → Fin 4096) (hW : ∀ k y, W (ix2 k y) = wi k (c y)) (r y : Fin 512) :
    dot (k0_pay4 X G1) W r y = proj x g1 wi (c y) (place i r) := by
  unfold dot proj
  simp only [pay4_apply, hX, hG, hW]

/-- A group's window sums in the block are those in the batch row. -/
theorem trail_eq (w : ℕ) (hw : w ≤ 16) (P : FVec Ideal S512x512 .f32) (L : Vec Ideal S16x512 .f32) (p : Fin 8192 → EReal) (y r : Fin 512)
    (hP : ∀ r, P (ix2 r y) = p (place i r)) (hL : ∀ k, L (ix2 k y) = before p (i 1).val k) :
    trail w (column P L y) (16 + r.val) = trail w (seq p) (place i r).val := by
  rw [← show 512 * (i 1).val + r.val = (place i r).val from rfl, ← trail_block w hw]
  unfold column
  simp only [hL]
  congr 2
  funext q
  rw [hP]
  unfold seq
  have hq : 512 * (i 1).val + q.val < 8192 := (place i q).isLt
  rw [dif_pos hq]; rfl

/-- The numbers of rows in the windows, at the point's rows. -/
theorem count_eq (b : BitVec 32) (r : Fin 512) :
    FloatOps.sitofp (F := Ideal) FTy.f32 (IntOp.minsi (IntOp.addi (k0_pay5 i (ix2 r 0)) 1#32) b) = count b (place i r).val := by
  rw [pay5_apply]; rfl

/-- A group's column in the block is that of the batch row. -/
theorem gated_eq (g : Fin 4) (w : ℕ) (b : BitVec 32) (H : FVec Ideal S512x1024 .bf16) (Z : Vec Ideal S1024x512 .bf16) (P : FVec Ideal S512x512 .f32)
    (M : Vec Ideal S1x512x512 .bf16) (S : Vec Ideal S1x512 .f32) (tot : Fin 512 → EReal) (r c : Fin 512)
    (hT : ∀ y, tot y = trail w (seq (proj x g1 wi (left (col g y)))) (place i r).val) (hP : ∀ r y, P (ix2 r y) = proj x g1 wi (left (col g y)) (place i r))
    (hZ : ∀ r y, dot H Z r y = proj x g1 wi (right (col g y)) (place i r)) (hM : ∀ k y, M (ix3 0 k y) = pw g k y) (hS : ∀ y, S (ix2 0 y) = ps (col g y)) :
    gatedAt H Z P M S tot (count b (place i r).val) r c = mixed x g1 wi pw ps g w b (place i r) c := by
  unfold gatedAt gated mixed gated
  simp only [hT, hP, hZ, hM, hS]

/-- What the point stores. -/
abbrev body : Vec Ideal S1x512x1024 .f32 :=
  k0_pay1 (k0_pay3 X)
    (k0_pay24 (k0_pay4 X G1) (k0_pay19 (k0_pay4 X G1) (k0_pay14 (k0_pay10 (k0_pay4 X G1) (k0_pay5 i) k0_pay6 (k0_pay7 X G1 (View.ld WP (Rect.unit ![0, 0] ![1024, 512] inb_S1024x2048_S1024x512_0_0)))
            (k0_pay9 X G1 (View.ld WP (Rect.unit ![0, 0] ![1024, 512] inb_S1024x2048_S1024x512_0_0)) L0) (View.ld M (Rect.unit ![0, 0, 0] ![1, 512, 512] inb_S4x512x512_S1x512x512_0_0_0)) (View.ld S (Rect.unit ![0, 0] ![1, 512] inb_S1x2048_S1x512_0_0))
            (View.ld WZ (Rect.unit ![0, 0] ![1024, 512] inb_S1024x2048_S1024x512_0_0)) (View.ld O (Rect.unit ![0, 0] ![512, 1024] inb_S2048x1024_S512x1024_0_0)))
          (k0_pay13 (k0_pay4 X G1) (k0_pay5 i) (k0_pay11 (k0_pay4 X G1) (View.ld WP (Rect.unit ![0, 512] ![1024, 512] inb_S1024x2048_S1024x512_0_512))) L1
            (View.ld M (Rect.unit ![1, 0, 0] ![1, 512, 512] inb_S4x512x512_S1x512x512_1_0_0)) (View.ld S (Rect.unit ![0, 512] ![1, 512] inb_S1x2048_S1x512_0_512)) (View.ld WZ (Rect.unit ![0, 512] ![1024, 512] inb_S1024x2048_S1024x512_0_512))) (View.ld O (Rect.unit ![512, 0] ![512, 1024] inb_S2048x1024_S512x1024_512_0)))
        (k0_pay17 (k0_pay4 X G1) (k0_pay5 i) (View.ld WP (Rect.unit ![0, 1024] ![1024, 512] inb_S1024x2048_S1024x512_0_1024)) L2 (View.ld M (Rect.unit ![2, 0, 0] ![1, 512, 512] inb_S4x512x512_S1x512x512_2_0_0)) (View.ld S (Rect.unit ![0, 1024] ![1, 512] inb_S1x2048_S1x512_0_1024)))
        (k0_pay18 (View.ld WZ (Rect.unit ![0, 1024] ![1024, 512] inb_S1024x2048_S1024x512_0_1024))) (View.ld O (Rect.unit ![1024, 0] ![512, 1024] inb_S2048x1024_S512x1024_1024_0)))
      (k0_pay20 (k0_pay4 X G1) (View.ld WP (Rect.unit ![0, 1536] ![1024, 512] inb_S1024x2048_S1024x512_0_1536))) (k0_pay22 (k0_pay4 X G1) (View.ld WP (Rect.unit ![0, 1536] ![1024, 512] inb_S1024x2048_S1024x512_0_1536)) L3) (k0_pay23 (k0_pay5 i))
      (View.ld M (Rect.unit ![3, 0, 0] ![1, 512, 512] inb_S4x512x512_S1x512x512_3_0_0)) (View.ld S (Rect.unit ![0, 1536] ![1, 512] inb_S1x2048_S1x512_0_1536)) (View.ld WZ (Rect.unit ![0, 1536] ![1024, 512] inb_S1024x2048_S1024x512_0_1536)) (View.ld O (Rect.unit ![1536, 0] ![512, 1024] inb_S2048x1024_S512x1024_1536_0)))
    (k0_pay25 G2)

theorem body_apply (hX : ∀ r k, X (ix3 0 r k) = x (place i r) k) (hG1 : ∀ k, G1 (ix2 0 k) = g1 k)
    (hWP : ∀ k c, WP (ix2 k c) = wi k (left c)) (hWZ : ∀ k c, WZ (ix2 k c) = wi k (right c)) (hM : ∀ g k y, M (ix3 g k y) = pw g k y)
    (hS : ∀ c, S (ix2 0 c) = ps c) (hO : ∀ c d, O (ix2 c d) = wo c d) (hG2 : ∀ d, G2 (ix2 0 d) = g2 d)
    (hL0 : ∀ k y, L0 (ix2 k y) = before (proj x g1 wi (left (col 0 y))) (i 1).val k)
    (hL1 : ∀ k y, L1 (ix2 k y) = before (proj x g1 wi (left (col 1 y))) (i 1).val k)
    (hL2 : ∀ k y, L2 (ix2 k y) = before (proj x g1 wi (left (col 2 y))) (i 1).val k)
    (hL3 : ∀ k y, L3 (ix2 k y) = before (proj x g1 wi (left (col 3 y))) (i 1).val k) (r : Fin 512) (d : Fin 1024) :
    body i X G1 WP WZ M S O G2 L0 L1 L2 L3 (ix3 0 r d) = entry x g1 wi pw ps wo g2 (place i r) d := by
  unfold body
  rw [pay1_apply, pay24_apply _ _ _ _ _ _ _ _ _ r (count 16#32 (place i r).val) (fun y => pay23_apply _ r y _ (count_eq i _ r)) (fun e => G2 (ix2 0 e)) d]
  unfold entry
  simp only [hX, hG2]
  congr 1
  refine congrArg (fun f => Norm.norm f g2 d) (funext fun e => ?_)
  rw [pay19_apply, pay14_apply, pay9_eq, pay10_apply _ _ _ _ _ _ _ _ _ r e _ (count_eq i _ r)]
  rw [show (k0_pay6 : FVec Ideal S512x1024 .f32) (ix2 r e) = (0 : EReal) from by pointwise [k0_pay6], zero_add]
  have p0 : ∀ r y, k0_pay7 X G1 (View.ld WP (Rect.unit ![0, 0] ![1024, 512] inb_S1024x2048_S1024x512_0_0)) (ix2 r y) = proj x g1 wi (left (col 0 y)) (place i r) := fun r y => by
    rw [pay7_apply]; exact dot_eq x g1 wi i X G1 hX hG1 _ _ (fun k y => (wp0_apply WP k y).trans (hWP _ _)) r y
  have p1 : ∀ r y, k0_pay11 (k0_pay4 X G1) (View.ld WP (Rect.unit ![0, 512] ![1024, 512] inb_S1024x2048_S1024x512_0_512)) (ix2 r y) = proj x g1 wi (left (col 1 y)) (place i r) := fun r y => by
    rw [pay11_apply]; exact dot_eq x g1 wi i X G1 hX hG1 _ _ (fun k y => (wp1_apply WP k y).trans (hWP _ _)) r y
  have p2 : ∀ r y, k0_pay15 (k0_pay4 X G1) (View.ld WP (Rect.unit ![0, 1024] ![1024, 512] inb_S1024x2048_S1024x512_0_1024)) (ix2 r y) = proj x g1 wi (left (col 2 y)) (place i r) := fun r y => by
    rw [pay15_apply]; exact dot_eq x g1 wi i X G1 hX hG1 _ _ (fun k y => (wp2_apply WP k y).trans (hWP _ _)) r y
  have p3 : ∀ r y, k0_pay20 (k0_pay4 X G1) (View.ld WP (Rect.unit ![0, 1536] ![1024, 512] inb_S1024x2048_S1024x512_0_1536)) (ix2 r y) = proj x g1 wi (left (col 3 y)) (place i r) := fun r y => by
    rw [pay20_apply]; exact dot_eq x g1 wi i X G1 hX hG1 _ _ (fun k y => (wp3_apply WP k y).trans (hWP _ _)) r y
  have z0 : ∀ r y, dot (k0_pay4 X G1) (View.ld WZ (Rect.unit ![0, 0] ![1024, 512] inb_S1024x2048_S1024x512_0_0)) r y = proj x g1 wi (right (col 0 y)) (place i r) :=
    dot_eq x g1 wi i X G1 hX hG1 _ _ fun k y => (wp0_apply WZ k y).trans (hWZ _ _)
  have z1 : ∀ r y, dot (k0_pay4 X G1) (View.ld WZ (Rect.unit ![0, 512] ![1024, 512] inb_S1024x2048_S1024x512_0_512)) r y = proj x g1 wi (right (col 1 y)) (place i r) :=
    dot_eq x g1 wi i X G1 hX hG1 _ _ fun k y => (wp1_apply WZ k y).trans (hWZ _ _)
  have z2 : ∀ r y, dot (k0_pay4 X G1) (View.ld WZ (Rect.unit ![0, 1024] ![1024, 512] inb_S1024x2048_S1024x512_0_1024)) r y = proj x g1 wi (right (col 2 y)) (place i r) :=
    dot_eq x g1 wi i X G1 hX hG1 _ _ fun k y => (wp2_apply WZ k y).trans (hWZ _ _)
  have z3 : ∀ r y, dot (k0_pay4 X G1) (View.ld WZ (Rect.unit ![0, 1536] ![1024, 512] inb_S1024x2048_S1024x512_0_1536)) r y = proj x g1 wi (right (col 3 y)) (place i r) :=
    dot_eq x g1 wi i X G1 hX hG1 _ _ fun k y => (wp3_apply WZ k y).trans (hWZ _ _)
  have t0 := fun y => trail_eq i 2 (by omega) _ L0 _ y r (fun r => p0 r y) (fun k => hL0 k y)
  have t1 := fun y => trail_eq i 4 (by omega) _ L1 _ y r (fun r => p1 r y) (fun k => hL1 k y)
  have t2 := fun y => trail_eq i 8 (by omega) _ L2 _ y r (fun r => p2 r y) (fun k => hL2 k y)
  have t3 := fun y => trail_eq i 16 (by omega) _ L3 _ y r (fun r => p3 r y) (fun k => hL3 k y)
  unfold share
  refine congrArg₂ (· + ·) (congrArg₂ (· + ·) (congrArg₂ (· + ·) ?_ ?_) ?_) ?_ <;> refine Finset.sum_congr rfl fun c _ => ?_
  · rw [o0_apply, hO]
    exact congrArg (· * _) (gated_eq x g1 wi pw ps i 0 2 _ _ _ _ _ _ _ r c (t0) p0 z0 (fun k y => (m0_apply M k y).trans (hM 0 k y)) fun y => (s0_apply S y).trans (hS _))
  · rw [o1_apply, hO, pay13_apply _ _ _ _ _ _ _ r c _ (count_eq i _ r)]
    exact congrArg (· * _) (gated_eq x g1 wi pw ps i 1 4 _ _ _ _ _ _ _ r c (t1) p1 z1 (fun k y => (m1_apply M k y).trans (hM 1 k y)) fun y => (s1_apply S y).trans (hS _))
  · rw [o2_apply, hO, pay17_apply _ _ _ _ _ _ r c _ (count_eq i _ r)]
    exact congrArg (· * _) (gated_eq x g1 wi pw ps i 2 8 _ _ _ _ _ _ _ r c (t2) p2 z2 (fun k y => (m2_apply M k y).trans (hM 2 k y)) fun y => (s2_apply S y).trans (hS _))
  · rw [o3_apply, hO]
    exact congrArg (· * _) (gated_eq x g1 wi pw ps i 3 16 _ _ _ _ _ _ _ r c (fun y => (pay22_apply _ _ _ r y).trans (t3 y)) p3 z3 (fun k y => (m3_apply M k y).trans (hM 3 k y)) fun y => (s3_apply S y).trans (hS _))

end Point

end Cert.Odd

end
-- ==== Proof.OddHalo.lean ====
/- The sixteen rows of the first projection that a grid point of the odd layer keeps for the next one. -/
module

public import proofs.«01_k».proof.Proof.OddPoint
public import Idealize.ShloMosaic.Lib.Pipeline.ReadBack

@[expose] public section

set_option maxRecDepth 16384

noncomputable section

namespace Cert.Odd

open Cert.Kernel2Ideal Cert.Kernel2Ideal.Gen Idealize.ShloMosaic

section Loads
variable (V : Vec Ideal S16x2048 .f32)

/-! Where a group's columns lie among the kept rows, and what a load of them reads. -/

theorem place0 (k : Fin 16) (y : Fin 512) : (Rect.unit (s := S16x2048) ![0, 0] ![16, 512] inb_S16x2048_S16x512_0_0).idx (ix2 k y) = (ix2 k (col 0 y) : S16x2048.Idx) :=
  funext fun a => Fin.ext (match a with
    | ⟨0, _⟩ => (show 0 + 1 * k.val = k.val by omega)
    | ⟨1, _⟩ => (show 0 + 1 * y.val = 512 * 0 + y.val by omega))

theorem kept0_apply (k : Fin 16) (y : Fin 512) : (View.ld V (Rect.unit ![0, 0] ![16, 512] inb_S16x2048_S16x512_0_0)) (ix2 k y) = V (ix2 k (col 0 y)) :=
  congrArg V (place0 k y)

theorem place1 (k : Fin 16) (y : Fin 512) : (Rect.unit (s := S16x2048) ![0, 512] ![16, 512] inb_S16x2048_S16x512_0_512).idx (ix2 k y) = (ix2 k (col 1 y) : S16x2048.Idx) :=
  funext fun a => Fin.ext (match a with
    | ⟨0, _⟩ => (show 0 + 1 * k.val = k.val by omega)
    | ⟨1, _⟩ => (show 512 + 1 * y.val = 512 * 1 + y.val by omega))

theorem kept1_apply (k : Fin 16) (y : Fin 512) : (View.ld V (Rect.unit ![0, 512] ![16, 512] inb_S16x2048_S16x512_0_512)) (ix2 k y) = V (ix2 k (col 1 y)) :=
  congrArg V (place1 k y)

theorem place2 (k : Fin 16) (y : Fin 512) : (Rect.unit (s := S16x2048) ![0, 1024] ![16, 512] inb_S16x2048_S16x512_0_1024).idx (ix2 k y) = (ix2 k (col 2 y) : S16x2048.Idx) :=
  funext fun a => Fin.ext (match a with
    | ⟨0, _⟩ => (show 0 + 1 * k.val = k.val by omega)
    | ⟨1, _⟩ => (show 1024 + 1 * y.val = 512 * 2 + y.val by omega))

theorem kept2_apply (k : Fin 16) (y : Fin 512) : (View.ld V (Rect.unit ![0, 1024] ![16, 512] inb_S16x2048_S16x512_0_1024)) (ix2 k y) = V (ix2 k (col 2 y)) :=
  congrArg V (place2 k y)

theorem place3 (k : Fin 16) (y : Fin 512) : (Rect.unit (s := S16x2048) ![0, 1536] ![16, 512] inb_S16x2048_S16x512_0_1536).idx (ix2 k y) = (ix2 k (col 3 y) : S16x2048.Idx) :=
  funext fun a => Fin.ext (match a with
    | ⟨0, _⟩ => (show 0 + 1 * k.val = k.val by omega)
    | ⟨1, _⟩ => (show 1536 + 1 * y.val = 512 * 3 + y.val by omega))

theorem kept3_apply (k : Fin 16) (y : Fin 512) : (View.ld V (Rect.unit ![0, 1536] ![16, 512] inb_S16x2048_S16x512_0_1536)) (ix2 k y) = V (ix2 k (col 3 y)) :=
  congrArg V (place3 k y)

end Loads

/-- An index of sixteen rows of 512 by its two coordinates. -/
theorem pair (z : S16x512.Idx) : ∃ (k : Fin 16) (y : Fin 512), z = ix2 k y :=
  ⟨z 0, z 1, funext fun a => match a with
    | ⟨0, _⟩ => rfl
    | ⟨1, _⟩ => rfl⟩

variable (x : Fin 8192 → Fin 1024 → EReal) (g1 : Fin 1024 → EReal) (wi : Fin 1024 → Fin 4096 → EReal) (i : grid0.Coords)
  (X : Vec Ideal S1x512x1024 .f32) (G1 : Vec Ideal S1x1024 .f32) (WP : Vec Ideal S1024x2048 .bf16)

/-- The last sixteen rows of the point's block of the first projection. -/
def lastRows : Vec Ideal S16x2048 .f32 := fun z => proj x g1 wi (left (z 1)) (place i ⟨496 + (z 0).val, by have : (z 0).val < 16 := (z 0).isLt; omega⟩)

/-- The four stores, the last one first. -/
abbrev keptPieces : List (View.Piece (Elt Ideal) S16x2048 .f32) :=
  [⟨Rect.unit ![0, 1536] ![16, 512] inb_S16x2048_S16x512_0_1536,
      k0_pay21 (k0_pay4 X G1) (View.ld WP (Rect.unit ![0, 1536] ![1024, 512] inb_S1024x2048_S1024x512_0_1536))⟩,
    ⟨Rect.unit ![0, 1024] ![16, 512] inb_S16x2048_S16x512_0_1024,
      k0_pay16 (k0_pay4 X G1) (View.ld WP (Rect.unit ![0, 1024] ![1024, 512] inb_S1024x2048_S1024x512_0_1024))⟩,
    ⟨Rect.unit ![0, 512] ![16, 512] inb_S16x2048_S16x512_0_512,
      k0_pay12 (k0_pay11 (k0_pay4 X G1) (View.ld WP (Rect.unit ![0, 512] ![1024, 512] inb_S1024x2048_S1024x512_0_512)))⟩,
    ⟨Rect.unit ![0, 0] ![16, 512] inb_S16x2048_S16x512_0_0,
      k0_pay8 X G1 (View.ld WP (Rect.unit ![0, 0] ![1024, 512] inb_S1024x2048_S1024x512_0_0))⟩]

section
variable (hX : ∀ r k, X (ix3 0 r k) = x (place i r) k) (hG1 : ∀ k, G1 (ix2 0 k) = g1 k) (hWP : ∀ k c, WP (ix2 k c) = wi k (left c))
include hX hG1 hWP

/-! What each of them stores. -/

theorem piece0 (k : Fin 16) (y : Fin 512) : (k0_pay8 X G1 (View.ld WP (Rect.unit ![0, 0] ![1024, 512] inb_S1024x2048_S1024x512_0_0)) : Vec Ideal S16x512 .f32) (ix2 k y)
    = proj x g1 wi (left (col 0 y)) (place i ⟨496 + k.val, by omega⟩) := by
  rw [pay8_apply, pay7_apply]
  exact dot_eq x g1 wi i X G1 hX hG1 _ _ (fun k y => (wp0_apply WP k y).trans (hWP _ _)) _ y

theorem piece1 (k : Fin 16) (y : Fin 512) : (k0_pay12 (k0_pay11 (k0_pay4 X G1) (View.ld WP (Rect.unit ![0, 512] ![1024, 512] inb_S1024x2048_S1024x512_0_512))) : Vec Ideal S16x512 .f32) (ix2 k y)
    = proj x g1 wi (left (col 1 y)) (place i ⟨496 + k.val, by omega⟩) := by
  rw [pay12_apply, pay11_apply]
  exact dot_eq x g1 wi i X G1 hX hG1 _ _ (fun k y => (wp1_apply WP k y).trans (hWP _ _)) _ y

theorem piece2 (k : Fin 16) (y : Fin 512) : (k0_pay16 (k0_pay4 X G1) (View.ld WP (Rect.unit ![0, 1024] ![1024, 512] inb_S1024x2048_S1024x512_0_1024)) : Vec Ideal S16x512 .f32) (ix2 k y)
    = proj x g1 wi (left (col 2 y)) (place i ⟨496 + k.val, by omega⟩) := by
  rw [pay16_apply, pay15_apply]
  exact dot_eq x g1 wi i X G1 hX hG1 _ _ (fun k y => (wp2_apply WP k y).trans (hWP _ _)) _ y

theorem piece3 (k : Fin 16) (y : Fin 512) : (k0_pay21 (k0_pay4 X G1) (View.ld WP (Rect.unit ![0, 1536] ![1024, 512] inb_S1024x2048_S1024x512_0_1536)) : Vec Ideal S16x512 .f32) (ix2 k y)
    = proj x g1 wi (left (col 3 y)) (place i ⟨496 + k.val, by omega⟩) := by
  rw [pay21_apply, pay20_apply]
  exact dot_eq x g1 wi i X G1 hX hG1 _ _ (fun k y => (wp3_apply WP k y).trans (hWP _ _)) _ y

theorem kept_pieces : View.PiecesOf (lastRows x g1 wi i) (keptPieces X G1 WP) :=
  ⟨fun z => by
      obtain ⟨k, y, rfl⟩ := pair z
      exact (piece3 x g1 wi i X G1 WP hX hG1 hWP k y).trans (congrArg (lastRows x g1 wi i) (place3 k y)).symm,
    fun z => by
      obtain ⟨k, y, rfl⟩ := pair z
      exact (piece2 x g1 wi i X G1 WP hX hG1 hWP k y).trans (congrArg (lastRows x g1 wi i) (place2 k y)).symm,
    fun z => by
      obtain ⟨k, y, rfl⟩ := pair z
      exact (piece1 x g1 wi i X G1 WP hX hG1 hWP k y).trans (congrArg (lastRows x g1 wi i) (place1 k y)).symm,
    fun z => by
      obtain ⟨k, y, rfl⟩ := pair z
      exact (piece0 x g1 wi i X G1 WP hX hG1 hWP k y).trans (congrArg (lastRows x g1 wi i) (place0 k y)).symm, trivial⟩

/-! What the four of them leave, whatever was there. -/

theorem kept_col0 (L' : List (View.Piece (Elt Ideal) S16x2048 .f32)) (k : Fin 16) (y : Fin 512) :
    View.canon (keptPieces X G1 WP ++ L') (ix2 k (col 0 y)) = proj x g1 wi (left (col 0 y)) (place i ⟨496 + k.val, by omega⟩) :=
  View.canon_append_of_piecesOf (lastRows x g1 wi i) L' (keptPieces X G1 WP) (kept_pieces x g1 wi i X G1 WP hX hG1 hWP) _
    ⟨_, List.mem_cons_of_mem _ (List.mem_cons_of_mem _ (List.mem_cons_of_mem _ List.mem_cons_self)), by rw [← place0 k y]; exact LoadRect.idx_mem _ _⟩

theorem kept_col1 (L' : List (View.Piece (Elt Ideal) S16x2048 .f32)) (k : Fin 16) (y : Fin 512) :
    View.canon (keptPieces X G1 WP ++ L') (ix2 k (col 1 y)) = proj x g1 wi (left (col 1 y)) (place i ⟨496 + k.val, by omega⟩) :=
  View.canon_append_of_piecesOf (lastRows x g1 wi i) L' (keptPieces X G1 WP) (kept_pieces x g1 wi i X G1 WP hX hG1 hWP) _
    ⟨_, List.mem_cons_of_mem _ (List.mem_cons_of_mem _ List.mem_cons_self), by rw [← place1 k y]; exact LoadRect.idx_mem _ _⟩

theorem kept_col2 (L' : List (View.Piece (Elt Ideal) S16x2048 .f32)) (k : Fin 16) (y : Fin 512) :
    View.canon (keptPieces X G1 WP ++ L') (ix2 k (col 2 y)) = proj x g1 wi (left (col 2 y)) (place i ⟨496 + k.val, by omega⟩) :=
  View.canon_append_of_piecesOf (lastRows x g1 wi i) L' (keptPieces X G1 WP) (kept_pieces x g1 wi i X G1 WP hX hG1 hWP) _
    ⟨_, List.mem_cons_of_mem _ List.mem_cons_self, by rw [← place2 k y]; exact LoadRect.idx_mem _ _⟩

theorem kept_col3 (L' : List (View.Piece (Elt Ideal) S16x2048 .f32)) (k : Fin 16) (y : Fin 512) :
    View.canon (keptPieces X G1 WP ++ L') (ix2 k (col 3 y)) = proj x g1 wi (left (col 3 y)) (place i ⟨496 + k.val, by omega⟩) :=
  View.canon_append_of_piecesOf (lastRows x g1 wi i) L' (keptPieces X G1 WP) (kept_pieces x g1 wi i X G1 WP hX hG1 hWP) _
    ⟨_, List.mem_cons_self, by rw [← place3 k y]; exact LoadRect.idx_mem _ _⟩

end

end Cert.Odd

end
-- ==== Proof.OddArray.lean ====
/- The odd layer's result array, put together from the blocks the grid points write. -/
module

public import proofs.«01_k».proof.Proof.OddHalo
public import proofs.«01_k».proof.Proof.Gen.Kernel2Ideal.Value
public import Idealize.ShloMosaic.Lib.Pipeline.Covers
public import Idealize.ShloMosaic.Lib.Pipeline.ValueKit

@[expose] public section

set_option maxRecDepth 16384

noncomputable section

namespace Cert.Odd

open Cert.Kernel2Ideal Cert.Kernel2Ideal.Gen Idealize.ShloMosaic Idealize.ShloMosaic.TcCoe Idealize.SL.Sem

theorem word4 : ∀ a : Fin 4, (BitVec.ofNat 32 a.val).toNat = a.val := by decide
theorem word16 : ∀ a : Fin 16, (BitVec.ofNat 32 a.val).toNat = a.val := by decide

/-- A grid point's batch row and its block of rows. -/
abbrev batch (i : grid0.Coords) : Fin 4 := i 0
abbrev rowBlk (i : grid0.Coords) : Fin 16 := i 1

theorem batch_val (t : Fin cfg0.N) : (batch (grid0.coords t)).val = t.val / 16 % 4 := Pipeline.Grid.coords_val t 0 (by decide) rfl
theorem rowBlk_val (t : Fin cfg0.N) : (rowBlk (grid0.coords t)).val = t.val % 16 :=
  (Pipeline.Grid.coords_val t 1 (S := 1) (B := 16) (by decide) rfl).trans (by rw [Nat.div_one])

section
variable (m : (ℓ : Loc nD τ sig) → Buf (Elt Ideal) ℓ) (c : Dev nD) (t : Fin cfg0.N)

/-! The argument arrays, by their coordinates. -/

def xOf (b : Fin 4) (s : Fin 8192) (k : Fin 1024) : EReal := (m ((c : Thread nD τ).loc main_arg0) : Vec Ideal S4x8192x1024 .f32) (ix3 b s k)
def g1Of (k : Fin 1024) : EReal := (m ((c : Thread nD τ).loc main_arg1) : Vec Ideal S1024 .f32) (ix1 k)
def g2Of (k : Fin 1024) : EReal := (m ((c : Thread nD τ).loc main_arg2) : Vec Ideal S1024 .f32) (ix1 k)
def wiOf (k : Fin 1024) (e : Fin 4096) : EReal := (m ((c : Thread nD τ).loc main_arg3) : Vec Ideal S1024x4096 .f32) (ix2 k e)
def pwOf (g : Fin 4) (k y : Fin 512) : EReal := (m ((c : Thread nD τ).loc main_arg4) : Vec Ideal S4x512x512 .f32) (ix3 g k y)
def psOf (e : Fin 2048) : EReal := (m ((c : Thread nD τ).loc main_arg5) : Vec Ideal S2048 .f32) (ix1 e)
def woOf (e : Fin 2048) (d : Fin 1024) : EReal := (m ((c : Thread nD τ).loc main_arg6) : Vec Ideal S2048x1024 .f32) (ix2 e d)

theorem index0 : win0_0.index t = ![(batch (grid0.coords t)).val, (rowBlk (grid0.coords t)).val, 0] := by
  funext a
  match a with
  | ⟨0, _⟩ => exact word4 (batch (grid0.coords t))
  | ⟨1, _⟩ => exact word16 (rowBlk (grid0.coords t))
  | ⟨2, _⟩ => rfl

theorem index8 : win0_8.index t = ![(batch (grid0.coords t)).val, (rowBlk (grid0.coords t)).val, 0] := index0 t

/-- Three coordinates make the index. -/
theorem idx_ext (i j : S4x8192x1024.Idx) (h0 : (i 0).val = (j 0).val) (h1 : (i 1).val = (j 1).val) (h2 : (i 2).val = (j 2).val) : i = j := by
  funext a
  apply Fin.ext
  match a with
  | ⟨0, _⟩ => exact h0
  | ⟨1, _⟩ => exact h1
  | ⟨2, _⟩ => exact h2

/-! What the windows hold at a grid point. -/

/-- The point's rows. -/
theorem iblk0_apply (r : Fin 512) (k : Fin 1024) : (iblk m c 0 t : Vec Ideal S1x512x1024 .f32) (ix3 0 r k : S1x512x1024.Idx)
    = xOf m c (batch (grid0.coords t)) (place (grid0.coords t) r) k := by
  blk_simp [iblk]
  rw [V_main_arg0]
  unfold xOf
  refine congrArg _ (idx_ext _ _ ?_ ?_ ?_) <;> blk_simp [index0]
  · exact Nat.add_zero _
  · show (rowBlk (grid0.coords t)).val * 512 + r.val = 512 * (rowBlk (grid0.coords t)).val + r.val; omega

/-- The first gain. -/
theorem iblk1_apply (k : Fin 1024) : (iblk m c 1 t : Vec Ideal S1x1024 .f32) (ix2 0 k : S1x1024.Idx) = g1Of m c k := by
  blk_simp [iblk]
  have h : (win0_1.blk t).view.emb (ix2 0 k : S1x1024.Idx) = (ix2 0 k : S1x1024.Idx) := by
    funext a
    apply Fin.ext
    match a with
    | ⟨0, _⟩ => blk_simp; rfl
    | ⟨1, _⟩ => blk_simp; show 0 * 1024 + k.val = k.val; omega
  rw [h]
  show (broadcastInDim S1x1024 ![1] bcast_S1024_S1x1024_1 ((m ((c : Thread nD τ).loc main_arg1) : Vec Ideal S1024 .f32) : FVec Ideal S1024 .f32) : FVec Ideal S1x1024 .f32) (ix2 0 k) = _
  pointwise
  rfl

/-- The first projection's columns. -/
theorem iblk2_apply (k : Fin 1024) (e : Fin 2048) : (iblk m c 2 t : Vec Ideal S1024x2048 .bf16) (ix2 k e : S1024x2048.Idx) = wiOf m c k (left e) := by
  blk_simp [iblk]
  have h : (win0_2.blk t).view.emb (ix2 k e : S1024x2048.Idx) = (ix2 k e : S1024x2048.Idx) := by
    funext a
    apply Fin.ext
    match a with
    | ⟨0, _⟩ => blk_simp; show 0 * 1024 + k.val = k.val; omega
    | ⟨1, _⟩ => blk_simp; show 0 * 2048 + e.val = e.val; omega
  rw [h]
  show (extractStridedSlice S1024x2048 ![0, 0] (truncf .bf16 ((m ((c : Thread nD τ).loc main_arg3) : Vec Ideal S1024x4096 .f32) : FVec Ideal S1024x4096 .f32) bitsLt_bf16_f32 : FVec Ideal S1024x4096 .bf16) slices_S1024x4096_S1024x2048_0_0 : FVec Ideal S1024x2048 .bf16) (ix2 k e) = _
  pointwise
  rfl

/-- The gate's columns. -/
theorem iblk3_apply (k : Fin 1024) (e : Fin 2048) : (iblk m c 3 t : Vec Ideal S1024x2048 .bf16) (ix2 k e : S1024x2048.Idx) = wiOf m c k (right e) := by
  blk_simp [iblk]
  have h : (win0_3.blk t).view.emb (ix2 k e : S1024x2048.Idx) = (ix2 k e : S1024x2048.Idx) := by
    funext a
    apply Fin.ext
    match a with
    | ⟨0, _⟩ => blk_simp; show 0 * 1024 + k.val = k.val; omega
    | ⟨1, _⟩ => blk_simp; show 0 * 2048 + e.val = e.val; omega
  rw [h]
  show (extractStridedSlice S1024x2048 ![0, 2048] (truncf .bf16 ((m ((c : Thread nD τ).loc main_arg3) : Vec Ideal S1024x4096 .f32) : FVec Ideal S1024x4096 .f32) bitsLt_bf16_f32 : FVec Ideal S1024x4096 .bf16) slices_S1024x4096_S1024x2048_0_2048 : FVec Ideal S1024x2048 .bf16) (ix2 k e) = _
  pointwise
  rfl

/-- The mixing matrices. -/
theorem iblk4_apply (g : Fin 4) (k y : Fin 512) : (iblk m c 4 t : Vec Ideal S4x512x512 .bf16) (ix3 g k y : S4x512x512.Idx) = pwOf m c g k y := by
  blk_simp [iblk]
  have h : (win0_4.blk t).view.emb (ix3 g k y : S4x512x512.Idx) = (ix3 g k y : S4x512x512.Idx) := by
    funext a
    apply Fin.ext
    match a with
    | ⟨0, _⟩ => blk_simp; show 0 * 4 + g.val = g.val; omega
    | ⟨1, _⟩ => blk_simp; show 0 * 512 + k.val = k.val; omega
    | ⟨2, _⟩ => blk_simp; show 0 * 512 + y.val = y.val; omega
  rw [h]
  show (truncf .bf16 ((m ((c : Thread nD τ).loc main_arg4) : Vec Ideal S4x512x512 .f32) : FVec Ideal S4x512x512 .f32) bitsLt_bf16_f32 : FVec Ideal S4x512x512 .bf16) (ix3 g k y) = _
  pointwise
  rfl

/-- The columns' scales. -/
theorem iblk5_apply (e : Fin 2048) : (iblk m c 5 t : Vec Ideal S1x2048 .f32) (ix2 0 e : S1x2048.Idx) = psOf m c e := by
  blk_simp [iblk]
  have h : (win0_5.blk t).view.emb (ix2 0 e : S1x2048.Idx) = (ix2 0 e : S1x2048.Idx) := by
    funext a
    apply Fin.ext
    match a with
    | ⟨0, _⟩ => blk_simp; rfl
    | ⟨1, _⟩ => blk_simp; show 0 * 2048 + e.val = e.val; omega
  rw [h]
  show (broadcastInDim S1x2048 ![1] bcast_S2048_S1x2048_1 ((m ((c : Thread nD τ).loc main_arg5) : Vec Ideal S2048 .f32) : FVec Ideal S2048 .f32) : FVec Ideal S1x2048 .f32) (ix2 0 e) = _
  pointwise
  rfl

/-- The second projection. -/
theorem iblk6_apply (e : Fin 2048) (d : Fin 1024) : (iblk m c 6 t : Vec Ideal S2048x1024 .bf16) (ix2 e d : S2048x1024.Idx) = woOf m c e d := by
  blk_simp [iblk]
  have h : (win0_6.blk t).view.emb (ix2 e d : S2048x1024.Idx) = (ix2 e d : S2048x1024.Idx) := by
    funext a
    apply Fin.ext
    match a with
    | ⟨0, _⟩ => blk_simp; show 0 * 2048 + e.val = e.val; omega
    | ⟨1, _⟩ => blk_simp; show 0 * 1024 + d.val = d.val; omega
  rw [h]
  show (truncf .bf16 ((m ((c : Thread nD τ).loc main_arg6) : Vec Ideal S2048x1024 .f32) : FVec Ideal S2048x1024 .f32) bitsLt_bf16_f32 : FVec Ideal S2048x1024 .bf16) (ix2 e d) = _
  pointwise
  rfl

/-- The second gain. -/
theorem iblk7_apply (k : Fin 1024) : (iblk m c 7 t : Vec Ideal S1x1024 .f32) (ix2 0 k : S1x1024.Idx) = g2Of m c k := by
  blk_simp [iblk]
  have h : (win0_7.blk t).view.emb (ix2 0 k : S1x1024.Idx) = (ix2 0 k : S1x1024.Idx) := by
    funext a
    apply Fin.ext
    match a with
    | ⟨0, _⟩ => blk_simp; rfl
    | ⟨1, _⟩ => blk_simp; show 0 * 1024 + k.val = k.val; omega
  rw [h]
  show (broadcastInDim S1x1024 ![1] bcast_S1024_S1x1024_1 ((m ((c : Thread nD τ).loc main_arg2) : Vec Ideal S1024 .f32) : FVec Ideal S1024 .f32) : FVec Ideal S1x1024 .f32) (ix2 0 k) = _
  pointwise
  rfl

/-- The rows a grid point keeps are the last sixteen of its own block of the first projection, whatever was kept before. -/
theorem kept_apply (g : Fin 4) (k : Fin 16) (y : Fin 512) : ((outsAt0 m c t.val t.isLt).2 : Vec Ideal S16x2048 .f32) (ix2 k (col g y))
    = proj (xOf m c (batch (grid0.coords t))) (g1Of m c) (wiOf m c) (left (col g y)) (place (grid0.coords t) ⟨496 + k.val, by omega⟩) := by
  have all : ∀ L', View.canon (keptPieces (iblk m c 0 t) (iblk m c 1 t) (iblk m c 2 t) ++ L') (ix2 k (col g y))
      = proj (xOf m c (batch (grid0.coords t))) (g1Of m c) (wiOf m c) (left (col g y)) (place (grid0.coords t) ⟨496 + k.val, by omega⟩) := fun L' => match g with
    | 0 => kept_col0 _ _ _ _ _ _ _ (iblk0_apply m c t) (iblk1_apply m c t) (iblk2_apply m c t) L' k y
    | 1 => kept_col1 _ _ _ _ _ _ _ (iblk0_apply m c t) (iblk1_apply m c t) (iblk2_apply m c t) L' k y
    | 2 => kept_col2 _ _ _ _ _ _ _ (iblk0_apply m c t) (iblk1_apply m c t) (iblk2_apply m c t) L' k y
    | 3 => kept_col3 _ _ _ _ _ _ _ (iblk0_apply m c t) (iblk1_apply m c t) (iblk2_apply m c t) L' k y
  by_cases h0 : t.val % 16 = 0
  · rw [outsAt0_A m c t h0]
    frame_out
    exact all [_]
  · rw [outsAt0_B m c t h0]
    frame_out
    exact all []

/-- At a later point of a batch row, the rows kept by the point before are those before the block. -/
theorem kept_before (h0 : ¬ t.val % 16 = 0) (g : Fin 4) (k : Fin 16) (y : Fin 512) :
    ((outsAt0 m c (t.val - 1) (Nat.lt_of_le_of_lt (Nat.sub_le _ _) t.isLt)).2 : Vec Ideal S16x2048 .f32) (ix2 k (col g y))
      = before (proj (xOf m c (batch (grid0.coords t))) (g1Of m c) (wiOf m c) (left (col g y))) (rowBlk (grid0.coords t)).val k := by
  have ht : t.val < 64 := lt_of_lt_of_eq t.isLt N_0
  have hk := k.isLt
  obtain ⟨s, hs⟩ : ∃ s : Fin cfg0.N, s.val = t.val - 1 := ⟨⟨t.val - 1, Nat.lt_of_le_of_lt (Nat.sub_le _ _) t.isLt⟩, rfl⟩
  have e := kept_apply m c s g k y
  have hb : batch (grid0.coords s) = batch (grid0.coords t) := Fin.ext (by rw [batch_val, batch_val, hs]; omega)
  have hr : (rowBlk (grid0.coords s)).val + 1 = (rowBlk (grid0.coords t)).val := by rw [rowBlk_val, rowBlk_val, hs]; omega
  rw [hb] at e
  simp only [hs] at e
  rw [e]
  unfold before seq
  have hl : (rowBlk (grid0.coords t)).val < 16 := (rowBlk (grid0.coords t)).isLt
  rw [if_neg (by omega), dif_pos (by omega)]
  congr 1
  apply Fin.ext
  show 512 * (rowBlk (grid0.coords s)).val + (496 + k.val) = 512 * (rowBlk (grid0.coords t)).val - 16 + k.val
  omega

/-- At a batch row's first point there is nothing before the block. -/
theorem zero_before (h0 : t.val % 16 = 0) (k : Fin 16) (e : Fin 2048) (p : Fin 8192 → EReal) :
    (k0_pay2 : FVec Ideal S16x2048 .f32) (ix2 k e) = before p (rowBlk (grid0.coords t)).val k := by
  unfold before
  rw [if_pos (by rw [rowBlk_val]; exact h0)]
  pointwise [k0_pay2]

/-- What a grid point stores. -/
theorem out_apply (r : Fin 512) (d : Fin 1024) : ((outsAt0 m c t.val t.isLt).1 : Vec Ideal S1x512x1024 .f32) (ix3 0 r d : S1x512x1024.Idx)
    = entry (xOf m c (batch (grid0.coords t))) (g1Of m c) (wiOf m c) (pwOf m c) (psOf m c) (woOf m c) (g2Of m c) (place (grid0.coords t) r) d := by
  by_cases h0 : t.val % 16 = 0
  · rw [outsAt0_A m c t h0]
    frame_out
    simp (decide := true) only [↓View.readCov_skip, ↓View.readCov_fill]
    exact body_apply (xOf m c (batch (grid0.coords t))) (g1Of m c) (wiOf m c) (pwOf m c) (psOf m c) (woOf m c) (g2Of m c) (grid0.coords t) (iblk m c 0 t) (iblk m c 1 t) (iblk m c 2 t) (iblk m c 3 t) (iblk m c 4 t) (iblk m c 5 t) (iblk m c 6 t) (iblk m c 7 t) _ _ _ _
      (iblk0_apply m c t) (iblk1_apply m c t) (iblk2_apply m c t) (iblk3_apply m c t)
      (iblk4_apply m c t) (iblk5_apply m c t) (iblk6_apply m c t) (iblk7_apply m c t)
      (fun k y => (kept0_apply _ k y).trans (zero_before t h0 k _ _)) (fun k y => (kept1_apply _ k y).trans (zero_before t h0 k _ _))
      (fun k y => (kept2_apply _ k y).trans (zero_before t h0 k _ _)) (fun k y => (kept3_apply _ k y).trans (zero_before t h0 k _ _)) r d
  · rw [outsAt0_B m c t h0]
    frame_out
    simp only [read_unread_whole]
    exact body_apply (xOf m c (batch (grid0.coords t))) (g1Of m c) (wiOf m c) (pwOf m c) (psOf m c) (woOf m c) (g2Of m c) (grid0.coords t) (iblk m c 0 t) (iblk m c 1 t) (iblk m c 2 t) (iblk m c 3 t) (iblk m c 4 t) (iblk m c 5 t) (iblk m c 6 t) (iblk m c 7 t) _ _ _ _
      (iblk0_apply m c t) (iblk1_apply m c t) (iblk2_apply m c t) (iblk3_apply m c t)
      (iblk4_apply m c t) (iblk5_apply m c t) (iblk6_apply m c t) (iblk7_apply m c t)
      (fun k y => (kept0_apply _ k y).trans (kept_before m c t h0 0 k y)) (fun k y => (kept1_apply _ k y).trans (kept_before m c t h0 1 k y))
      (fun k y => (kept2_apply _ k y).trans (kept_before m c t h0 2 k y)) (fun k y => (kept3_apply _ k y).trans (kept_before m c t h0 3 k y)) r d

end

/-- The result as an array, from the argument arrays. -/
def result (x : Vec Ideal S4x8192x1024 .f32) (g1 g2 : Vec Ideal S1024 .f32) (wi : Vec Ideal S1024x4096 .f32) (pw : Vec Ideal S4x512x512 .f32)
    (ps : Vec Ideal S2048 .f32) (wo : Vec Ideal S2048x1024 .f32) : Vec Ideal S4x8192x1024 .f32 := fun y =>
  entry (fun s k => x (ix3 (y 0) s k)) (fun k => g1 (ix1 k)) (fun k e => wi (ix2 k e)) (fun g k e => pw (ix3 g k e)) (fun e => ps (ix1 e))
    (fun e d => wo (ix2 e d)) (fun k => g2 (ix1 k)) (y 1) (y 2)

theorem arr_eq (m : (ℓ : Loc nD τ sig) → Buf (Elt Ideal) ℓ) (c : Dev nD) : (dats m 0 c).arrAt 8 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 8 _ ((cfg0.win 8).covers_of_indexMap_surj rfl (by decide) fun β => ?_) fun t hf y => ?_
  · have b0 : (β 0).val < 4 := (β 0).isLt
    have b1 : (β 1).val < 16 := (β 1).isLt
    have b2 : (β 2).val < 1 := (β 2).isLt
    refine ⟨fun | ⟨0, _⟩ => ⟨(β 0).val, b0⟩ | ⟨1, _⟩ => ⟨(β 1).val, b1⟩, fun a => ?_⟩
    match a with
    | ⟨0, _⟩ => exact word4 ⟨(β 0).val, b0⟩
    | ⟨1, _⟩ => exact word16 ⟨(β 1).val, b1⟩
    | ⟨2, _⟩ => show 0 = (β 2).val; omega
  blk_simp
  rw [after0_8]
  obtain ⟨r, d, hy⟩ : ∃ (r : Fin 512) (d : Fin 1024), y = (ix3 0 r d : S1x512x1024.Idx) :=
    ⟨⟨(y 1).val, (y 1).isLt⟩, ⟨(y 2).val, (y 2).isLt⟩, by
      funext a
      match a with
      | ⟨0, _⟩ => exact (Subsingleton.elim (α := Fin 1) _ _)
      | ⟨1, _⟩ => rfl
      | ⟨2, _⟩ => rfl⟩
  subst hy
  have e : (win0_8.blk t).view.emb (ix3 0 r d : S1x512x1024.Idx) = (ix3 (batch (grid0.coords t)) (place (grid0.coords t) r) d : S4x8192x1024.Idx) := by
    refine idx_ext _ _ ?_ ?_ ?_ <;> blk_simp [index8]
    · exact Nat.add_zero _
    · show (rowBlk (grid0.coords t)).val * 512 + r.val = 512 * (rowBlk (grid0.coords t)).val + r.val; omega
  show _ = result _ _ _ _ _ _ _ ((win0_8.blk t).view.emb (ix3 0 r d : S1x512x1024.Idx))
  rw [e]
  exact out_apply m c t r d

end Cert.Odd

end
-- ==== Proof.OddReference.lean ====
/- The odd layer's reference, read element by element: the same formula as the kernel's. -/
module

public import proofs.«01_k».proof.Proof.OddPoint
public import proofs.«01_k».proof.Proof.SbWindow
public import proofs.«01_k».proof.Proof.Gen.Reference2Ideal.Read

@[expose] public section

set_option maxRecDepth 16384

noncomputable section

namespace Cert.Odd

open Cert.Reference2Ideal Cert.Reference2Ideal.Read Idealize.ShloMosaic

/-- A window over `w` rows. -/
abbrev Win (w : ℕ) : Shape := ⟨3, ![1, w, 1]⟩

/-- The window's elements by their row. -/
def winEquiv (w : ℕ) : Fin w ≃ (Win w).Idx where
  toFun v := fun | ⟨0, _⟩ => (0 : Fin 1) | ⟨1, _⟩ => v | ⟨2, _⟩ => (0 : Fin 1)
  invFun j := j 1
  left_inv _ := rfl
  right_inv j := by
    funext a
    match a with
    | ⟨0, _⟩ => exact (Subsingleton.elim (α := Fin 1) _ _)
    | ⟨1, _⟩ => rfl
    | ⟨2, _⟩ => exact (Subsingleton.elim (α := Fin 1) _ _)

/-- The host's window sum with `w - 1` rows of padding in front is the sum of the last `w` rows. -/
theorem window_apply (w l : ℕ) (hl : l + 1 = w) (h : S4x8192x512.ReduceWindows ![1, w, 1] ![1, 1, 1] ![0, l, 0] ![0, 0, 0] S4x8192x512)
    (x : S4x8192x512.Idx → EReal) (b : Fin 4) (t : Fin 8192) (y : Fin 512) :
    Ideal.hostReduceWindowAdd ![1, w, 1] ![1, 1, 1] ![0, l, 0] ![0, 0, 0] h x 0 (ix3 b t y)
      = trail w (seq fun s => x (ix3 b s y)) t.val := by
  have ht := t.isLt
  unfold Ideal.hostReduceWindowAdd Host.reduceWindow trail
  simp only []
  rw [Cert.Sb.foldl_finRange, zero_add, ← Finset.sum_range_reflect, ← Fin.sum_univ_eq_sum_range (fun j => if w - 1 - j ≤ t.val then seq (fun s => x (ix3 b s y)) (t.val - (w - 1 - j)) else 0) w]
  refine (Fintype.sum_equiv ((winEquiv w).trans (Win w).rowMajor) _ _ fun v => ?_).symm
  simp only [Equiv.trans_apply, Equiv.symm_apply_apply]
  have hv := v.isLt
  by_cases hw : w - 1 - v.val ≤ t.val
  · unfold seq
    rw [if_pos hw, dif_pos (by omega), dif_pos]
    · refine congrArg x (funext fun a => Fin.ext ?_)
      match a with
      | ⟨0, _⟩ => show b.val = b.val * 1 + 0 - 0; omega
      | ⟨1, _⟩ => show t.val - (w - 1 - v.val) = t.val * 1 + v.val - l; omega
      | ⟨2, _⟩ => show y.val = y.val * 1 + 0 - 0; omega
    · intro a
      refine ⟨?_, ?_⟩
      · match a with
        | ⟨0, _⟩ => exact Nat.zero_le _
        | ⟨1, _⟩ => show l ≤ t.val * 1 + v.val; omega
        | ⟨2, _⟩ => exact Nat.zero_le _
      · match a with
        | ⟨0, _⟩ => have := b.isLt; show b.val * 1 + 0 - 0 < 4; omega
        | ⟨1, _⟩ => show t.val * 1 + v.val - l < 8192; omega
        | ⟨2, _⟩ => have := y.isLt; show y.val * 1 + 0 - 0 < 512; omega
  · rw [if_neg hw, dif_neg]
    intro hh
    have h1 : l ≤ t.val * 1 + v.val := (hh 1).1
    omega

variable (x0 : Vec Ideal S4x8192x1024 .f32) (x1 x2 : Vec Ideal S1024 .f32) (x3 : Vec Ideal S1024x4096 .f32) (x4 : Vec Ideal S4x512x512 .f32)
  (x5 : Vec Ideal S2048 .f32) (x6 : Vec Ideal S2048x1024 .f32) (b : Fin 4) (t : Fin 8192)

/-- The first projection of one batch row, from the arguments. -/
abbrev projOf (c : Fin 4096) (t : Fin 8192) : EReal :=
  proj (fun s k => x0 (ix3 b s k)) (fun k => x1 (ix1 k)) (fun k e => x3 (ix2 k e)) c t

theorem rows_apply (k : Fin 1024) : (val_main_v12 (F := Ideal) x0 x1 : FVec Ideal S4x8192x1024 .f32) (ix3 b t k)
    = Norm.norm (fun k => x0 (ix3 b t k)) (fun k => x1 (ix1 k)) k := by
  unfold Norm.norm
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

theorem proj_apply (c : Fin 4096) : (val_main_v13 (F := Ideal) x0 x1 x3 : FVec Ideal S4x8192x4096 .f32) (ix3 b t c) = projOf x0 x1 x3 b c t := by
  have hl : ∀ k : Fin 1024, lidx_main_v13 (ix3 b t c) k = ix3 b t k := fun k => funext fun i => match i with | ⟨0, _⟩ => rfl | ⟨1, _⟩ => rfl | ⟨2, _⟩ => rfl
  have hr : ∀ k : Fin 1024, ridx_main_v13 (ix3 b t c) k = ix2 k c := fun k => funext fun i => match i with | ⟨0, _⟩ => rfl | ⟨1, _⟩ => rfl
  rw [val_main_v13_apply]
  simp only [hl, hr, rows_apply]
  rfl

/-- The columns of group 0. -/
theorem part0_apply (y : Fin 512) : (val_main_v17 (F := Ideal) x0 x1 x3 : FVec Ideal S4x8192x512 .f32) (ix3 b t y) = projOf x0 x1 x3 b (left (col 0 y)) t := by
  rw [← proj_apply]
  generalize hp : val_main_v13 (F := Ideal) x0 x1 x3 = p
  pointwise [val_main_v17, val_main_v14, hp]
  exact congrArg p (congrArg (ix3 b t) (Fin.ext (show y.val = 512 * 0 + y.val by omega)))

/-- The sum of group 0's last 2 rows. -/
theorem total0_apply (y : Fin 512) : (val_main_v19 (F := Ideal) x0 x1 x3 : FVec Ideal S4x8192x512 .f32) (ix3 b t y)
    = trail 2 (seq (projOf x0 x1 x3 b (left (col 0 y)))) t.val := by
  have h0 : (val_main_v18 (F := Ideal) (Shape.Idx.first Gen.h_S_) : EReal) = 0 := by
    rw [val_main_v18_apply, val_main_cst_2_apply]; exact Ideal.ofBits_zero_f32
  unfold val_main_v19 Host.reduceWindowAdd
  rw [h0]
  refine (window_apply 2 1 rfl _ (val_main_v17 (F := Ideal) x0 x1 x3) b t y).trans ?_
  exact congrArg (fun f => trail 2 (seq f) t.val) (funext fun s => part0_apply x0 x1 x3 b s y)

/-- Group 0: its average less the row itself. -/
theorem pooled0_apply (y : Fin 512) : (val_main_v28 (F := Ideal) x0 x1 x3 : FVec Ideal S4x8192x512 .f32) (ix3 b t y)
    = Ideal.div (trail 2 (seq (projOf x0 x1 x3 b (left (col 0 y)))) t.val) (count 2#32 t.val) - projOf x0 x1 x3 b (left (col 0 y)) t := by
  rw [← total0_apply, ← part0_apply]
  generalize hp : val_main_v17 (F := Ideal) x0 x1 x3 = p
  generalize hq : val_main_v19 (F := Ideal) x0 x1 x3 = q
  pointwise [val_main_v28, val_main_v27, val_main_v26, val_main_v25, val_main_v24, val_main_v23, val_main_v22, val_main_v21, val_main_v20, val_main_v16, val_main_c, val_main_c_3, hp, hq]
  rfl

/-- The columns of group 1. -/
theorem part1_apply (y : Fin 512) : (val_main_v29 (F := Ideal) x0 x1 x3 : FVec Ideal S4x8192x512 .f32) (ix3 b t y) = projOf x0 x1 x3 b (left (col 1 y)) t := by
  rw [← proj_apply]
  generalize hp : val_main_v13 (F := Ideal) x0 x1 x3 = p
  pointwise [val_main_v29, val_main_v14, hp]
  exact congrArg p (congrArg (ix3 b t) (Fin.ext (show 512 + y.val = 512 * 1 + y.val by omega)))

/-- The sum of group 1's last 4 rows. -/
theorem total1_apply (y : Fin 512) : (val_main_v31 (F := Ideal) x0 x1 x3 : FVec Ideal S4x8192x512 .f32) (ix3 b t y)
    = trail 4 (seq (projOf x0 x1 x3 b (left (col 1 y)))) t.val := by
  have h0 : (val_main_v30 (F := Ideal) (Shape.Idx.first Gen.h_S_) : EReal) = 0 := by
    rw [val_main_v30_apply, val_main_cst_4_apply]; exact Ideal.ofBits_zero_f32
  unfold val_main_v31 Host.reduceWindowAdd
  rw [h0]
  refine (window_apply 4 3 rfl _ (val_main_v29 (F := Ideal) x0 x1 x3) b t y).trans ?_
  exact congrArg (fun f => trail 4 (seq f) t.val) (funext fun s => part1_apply x0 x1 x3 b s y)

/-- Group 1: its average less the row itself. -/
theorem pooled1_apply (y : Fin 512) : (val_main_v40 (F := Ideal) x0 x1 x3 : FVec Ideal S4x8192x512 .f32) (ix3 b t y)
    = Ideal.div (trail 4 (seq (projOf x0 x1 x3 b (left (col 1 y)))) t.val) (count 4#32 t.val) - projOf x0 x1 x3 b (left (col 1 y)) t := by
  rw [← total1_apply, ← part1_apply]
  generalize hp : val_main_v29 (F := Ideal) x0 x1 x3 = p
  generalize hq : val_main_v31 (F := Ideal) x0 x1 x3 = q
  pointwise [val_main_v40, val_main_v39, val_main_v38, val_main_v37, val_main_v36, val_main_v35, val_main_v34, val_main_v33, val_main_v32, val_main_v16, val_main_c_5, val_main_c_6, hp, hq]
  rfl

/-- The columns of group 2. -/
theorem part2_apply (y : Fin 512) : (val_main_v41 (F := Ideal) x0 x1 x3 : FVec Ideal S4x8192x512 .f32) (ix3 b t y) = projOf x0 x1 x3 b (left (col 2 y)) t := by
  rw [← proj_apply]
  generalize hp : val_main_v13 (F := Ideal) x0 x1 x3 = p
  pointwise [val_main_v41, val_main_v14, hp]
  exact congrArg p (congrArg (ix3 b t) (Fin.ext (show 1024 + y.val = 512 * 2 + y.val by omega)))

/-- The sum of group 2's last 8 rows. -/
theorem total2_apply (y : Fin 512) : (val_main_v43 (F := Ideal) x0 x1 x3 : FVec Ideal S4x8192x512 .f32) (ix3 b t y)
    = trail 8 (seq (projOf x0 x1 x3 b (left (col 2 y)))) t.val := by
  have h0 : (val_main_v42 (F := Ideal) (Shape.Idx.first Gen.h_S_) : EReal) = 0 := by
    rw [val_main_v42_apply, val_main_cst_7_apply]; exact Ideal.ofBits_zero_f32
  unfold val_main_v43 Host.reduceWindowAdd
  rw [h0]
  refine (window_apply 8 7 rfl _ (val_main_v41 (F := Ideal) x0 x1 x3) b t y).trans ?_
  exact congrArg (fun f => trail 8 (seq f) t.val) (funext fun s => part2_apply x0 x1 x3 b s y)

/-- Group 2: its average less the row itself. -/
theorem pooled2_apply (y : Fin 512) : (val_main_v52 (F := Ideal) x0 x1 x3 : FVec Ideal S4x8192x512 .f32) (ix3 b t y)
    = Ideal.div (trail 8 (seq (projOf x0 x1 x3 b (left (col 2 y)))) t.val) (count 8#32 t.val) - projOf x0 x1 x3 b (left (col 2 y)) t := by
  rw [← total2_apply, ← part2_apply]
  generalize hp : val_main_v41 (F := Ideal) x0 x1 x3 = p
  generalize hq : val_main_v43 (F := Ideal) x0 x1 x3 = q
  pointwise [val_main_v52, val_main_v51, val_main_v50, val_main_v49, val_main_v48, val_main_v47, val_main_v46, val_main_v45, val_main_v44, val_main_v16, val_main_c_8, val_main_c_9, hp, hq]
  rfl

/-- The columns of group 3. -/
theorem part3_apply (y : Fin 512) : (val_main_v53 (F := Ideal) x0 x1 x3 : FVec Ideal S4x8192x512 .f32) (ix3 b t y) = projOf x0 x1 x3 b (left (col 3 y)) t := by
  rw [← proj_apply]
  generalize hp : val_main_v13 (F := Ideal) x0 x1 x3 = p
  pointwise [val_main_v53, val_main_v14, hp]
  exact congrArg p (congrArg (ix3 b t) (Fin.ext (show 1536 + y.val = 512 * 3 + y.val by omega)))

/-- The sum of group 3's last 16 rows. -/
theorem total3_apply (y : Fin 512) : (val_main_v55 (F := Ideal) x0 x1 x3 : FVec Ideal S4x8192x512 .f32) (ix3 b t y)
    = trail 16 (seq (projOf x0 x1 x3 b (left (col 3 y)))) t.val := by
  have h0 : (val_main_v54 (F := Ideal) (Shape.Idx.first Gen.h_S_) : EReal) = 0 := by
    rw [val_main_v54_apply, val_main_cst_10_apply]; exact Ideal.ofBits_zero_f32
  unfold val_main_v55 Host.reduceWindowAdd
  rw [h0]
  refine (window_apply 16 15 rfl _ (val_main_v53 (F := Ideal) x0 x1 x3) b t y).trans ?_
  exact congrArg (fun f => trail 16 (seq f) t.val) (funext fun s => part3_apply x0 x1 x3 b s y)

/-- Group 3: its average less the row itself. -/
theorem pooled3_apply (y : Fin 512) : (val_main_v64 (F := Ideal) x0 x1 x3 : FVec Ideal S4x8192x512 .f32) (ix3 b t y)
    = Ideal.div (trail 16 (seq (projOf x0 x1 x3 b (left (col 3 y)))) t.val) (count 16#32 t.val) - projOf x0 x1 x3 b (left (col 3 y)) t := by
  rw [← total3_apply, ← part3_apply]
  generalize hp : val_main_v53 (F := Ideal) x0 x1 x3 = p
  generalize hq : val_main_v55 (F := Ideal) x0 x1 x3 = q
  pointwise [val_main_v64, val_main_v63, val_main_v62, val_main_v61, val_main_v60, val_main_v59, val_main_v58, val_main_v57, val_main_v56, val_main_v16, val_main_c_11, val_main_c_12, hp, hq]
  rfl

/-- Layer 0 of the stacked groups. -/
theorem stack0_apply (y : Fin 512) : (val_main_v69 (F := Ideal) x0 x1 x3 : FVec Ideal S4x8192x4x512 .f32) (ix4 b t 0 y)
    = (val_main_v28 (F := Ideal) x0 x1 x3 : FVec Ideal S4x8192x512 .f32) (ix3 b t y) := by
  generalize hp : val_main_v28 (F := Ideal) x0 x1 x3 = p
  pointwise [val_main_v69, val_main_v65, hp]

/-- Layer 1 of the stacked groups. -/
theorem stack1_apply (y : Fin 512) : (val_main_v69 (F := Ideal) x0 x1 x3 : FVec Ideal S4x8192x4x512 .f32) (ix4 b t 1 y)
    = (val_main_v40 (F := Ideal) x0 x1 x3 : FVec Ideal S4x8192x512 .f32) (ix3 b t y) := by
  generalize hp : val_main_v40 (F := Ideal) x0 x1 x3 = p
  pointwise [val_main_v69, val_main_v66, hp]

/-- Layer 2 of the stacked groups. -/
theorem stack2_apply (y : Fin 512) : (val_main_v69 (F := Ideal) x0 x1 x3 : FVec Ideal S4x8192x4x512 .f32) (ix4 b t 2 y)
    = (val_main_v52 (F := Ideal) x0 x1 x3 : FVec Ideal S4x8192x512 .f32) (ix3 b t y) := by
  generalize hp : val_main_v52 (F := Ideal) x0 x1 x3 = p
  pointwise [val_main_v69, val_main_v67, hp]

/-- Layer 3 of the stacked groups. -/
theorem stack3_apply (y : Fin 512) : (val_main_v69 (F := Ideal) x0 x1 x3 : FVec Ideal S4x8192x4x512 .f32) (ix4 b t 3 y)
    = (val_main_v64 (F := Ideal) x0 x1 x3 : FVec Ideal S4x8192x512 .f32) (ix3 b t y) := by
  generalize hp : val_main_v64 (F := Ideal) x0 x1 x3 = p
  pointwise [val_main_v69, val_main_v68, hp]

/-- The column of the joined groups belongs to its group. -/
theorem joined_apply (g : Fin 4) (c : Fin 512) : (val_main_v72 (F := Ideal) x0 x1 x3 x4 : FVec Ideal S4x8192x2048 .f32) (ix3 b t (col g c))
    = ∑ y : Fin 512, (val_main_v69 (F := Ideal) x0 x1 x3 : FVec Ideal S4x8192x4x512 .f32) (ix4 b t g y) * x4 (ix3 g y c) := by
  have hi : idx_main_v71 (idx_main_v72 (ix3 b t (col g c))) = ix4 g c b t := by
    have hb := b.isLt
    have ht := t.isLt
    have hg := g.isLt
    have hc := c.isLt
    refine funext fun a => Fin.ext ?_
    match a with
    | ⟨0, _⟩ => show ((b.val * 8192 + t.val) * 2048 + (512 * g.val + c.val)) / 512 % 4 = g.val; omega
    | ⟨1, _⟩ => show ((b.val * 8192 + t.val) * 2048 + (512 * g.val + c.val)) % 512 = c.val; omega
    | ⟨2, _⟩ => show ((b.val * 8192 + t.val) * 2048 + (512 * g.val + c.val)) / 16777216 = b.val; omega
    | ⟨3, _⟩ => show ((b.val * 8192 + t.val) * 2048 + (512 * g.val + c.val)) / 2048 % 8192 = t.val; omega
  have hl : ∀ k : Fin 512, lidx_main_v70 (ix4 g c b t) k = ix3 g k c := fun k => funext fun i => match i with | ⟨0, _⟩ => rfl | ⟨1, _⟩ => rfl | ⟨2, _⟩ => rfl
  have hr : ∀ k : Fin 512, ridx_main_v70 (ix4 g c b t) k = ix4 b t g k := fun k => funext fun i => match i with | ⟨0, _⟩ => rfl | ⟨1, _⟩ => rfl | ⟨2, _⟩ => rfl | ⟨3, _⟩ => rfl
  rw [val_main_v72_apply, val_main_v71_apply, hi, val_main_v70_apply]
  simp only [hl, hr]
  exact Finset.sum_congr rfl fun k _ => mul_comm (x4 (ix3 g k c) : EReal) _

/-- One gated column, from the joined groups. -/
theorem gate_apply (c : Fin 2048) : (val_main_v77 (F := Ideal) x0 x1 x3 x4 x5 : FVec Ideal S4x8192x2048 .f32) (ix3 b t c)
    = (val_main_v72 (F := Ideal) x0 x1 x3 x4 : FVec Ideal S4x8192x2048 .f32) (ix3 b t c) * x5 (ix1 c)
      * (projOf x0 x1 x3 b (right c) t * Ideal.div 1 (1 + Ideal.exp (0 - projOf x0 x1 x3 b (right c) t))) := by
  rw [← proj_apply, zero_sub]
  generalize hq : val_main_v13 (F := Ideal) x0 x1 x3 = q
  generalize hp : val_main_v72 (F := Ideal) x0 x1 x3 x4 = p
  pointwise [val_main_v77, val_main_v76, val_main_call0_v5, val_main_call0_v4, val_main_call0_v3, val_main_call0_v2, val_main_call0_v1, val_main_call0_v0, val_main_call0_cst, val_main_call0_cst_0, val_main_v75, val_main_v74, val_main_v73, val_main_v15, hp, hq]

/-- Group 0's columns are the kernel's. -/
theorem mixed0_apply (c : Fin 512) : (val_main_v77 (F := Ideal) x0 x1 x3 x4 x5 : FVec Ideal S4x8192x2048 .f32) (ix3 b t (col 0 c))
    = mixed (fun s k => x0 (ix3 b s k)) (fun k => x1 (ix1 k)) (fun k e => x3 (ix2 k e)) (fun g k e => x4 (ix3 g k e)) (fun e => x5 (ix1 e)) 0 2 2#32 t c := by
  rw [gate_apply, joined_apply]
  simp only [stack0_apply, pooled0_apply]
  rfl

/-- Group 1's columns are the kernel's. -/
theorem mixed1_apply (c : Fin 512) : (val_main_v77 (F := Ideal) x0 x1 x3 x4 x5 : FVec Ideal S4x8192x2048 .f32) (ix3 b t (col 1 c))
    = mixed (fun s k => x0 (ix3 b s k)) (fun k => x1 (ix1 k)) (fun k e => x3 (ix2 k e)) (fun g k e => x4 (ix3 g k e)) (fun e => x5 (ix1 e)) 1 4 4#32 t c := by
  rw [gate_apply, joined_apply]
  simp only [stack1_apply, pooled1_apply]
  rfl

/-- Group 2's columns are the kernel's. -/
theorem mixed2_apply (c : Fin 512) : (val_main_v77 (F := Ideal) x0 x1 x3 x4 x5 : FVec Ideal S4x8192x2048 .f32) (ix3 b t (col 2 c))
    = mixed (fun s k => x0 (ix3 b s k)) (fun k => x1 (ix1 k)) (fun k e => x3 (ix2 k e)) (fun g k e => x4 (ix3 g k e)) (fun e => x5 (ix1 e)) 2 8 8#32 t c := by
  rw [gate_apply, joined_apply]
  simp only [stack2_apply, pooled2_apply]
  rfl

/-- Group 3's columns are the kernel's. -/
theorem mixed3_apply (c : Fin 512) : (val_main_v77 (F := Ideal) x0 x1 x3 x4 x5 : FVec Ideal S4x8192x2048 .f32) (ix3 b t (col 3 c))
    = mixed (fun s k => x0 (ix3 b s k)) (fun k => x1 (ix1 k)) (fun k e => x3 (ix2 k e)) (fun g k e => x4 (ix3 g k e)) (fun e => x5 (ix1 e)) 3 16 16#32 t c := by
  rw [gate_apply, joined_apply]
  simp only [stack3_apply, pooled3_apply]
  rfl

/-- The second projection, one group after the other. -/
theorem product_apply (e : Fin 1024) : (val_main_v78 (F := Ideal) x0 x1 x3 x4 x5 x6 : FVec Ideal S4x8192x1024 .f32) (ix3 b t e)
    = ((share (fun s k => x0 (ix3 b s k)) (fun k => x1 (ix1 k)) (fun k e => x3 (ix2 k e)) (fun g k e => x4 (ix3 g k e)) (fun e => x5 (ix1 e)) (fun e d => x6 (ix2 e d)) 0 2 2#32 t e
        + share (fun s k => x0 (ix3 b s k)) (fun k => x1 (ix1 k)) (fun k e => x3 (ix2 k e)) (fun g k e => x4 (ix3 g k e)) (fun e => x5 (ix1 e)) (fun e d => x6 (ix2 e d)) 1 4 4#32 t e)
        + share (fun s k => x0 (ix3 b s k)) (fun k => x1 (ix1 k)) (fun k e => x3 (ix2 k e)) (fun g k e => x4 (ix3 g k e)) (fun e => x5 (ix1 e)) (fun e d => x6 (ix2 e d)) 2 8 8#32 t e)
        + share (fun s k => x0 (ix3 b s k)) (fun k => x1 (ix1 k)) (fun k e => x3 (ix2 k e)) (fun g k e => x4 (ix3 g k e)) (fun e => x5 (ix1 e)) (fun e d => x6 (ix2 e d)) 3 16 16#32 t e := by
  have hl : ∀ k : Fin 2048, lidx_main_v78 (ix3 b t e) k = ix3 b t k := fun k => funext fun i => match i with | ⟨0, _⟩ => rfl | ⟨1, _⟩ => rfl | ⟨2, _⟩ => rfl
  have hr : ∀ k : Fin 2048, ridx_main_v78 (ix3 b t e) k = ix2 k e := fun k => funext fun i => match i with | ⟨0, _⟩ => rfl | ⟨1, _⟩ => rfl
  have h0 : ∀ k : Fin 512, (⟨k.val, by omega⟩ : Fin 2048) = col 0 k := fun k => Fin.ext (show k.val = 512 * 0 + k.val by omega)
  have h1 : ∀ k : Fin 512, (⟨512 + k.val, by omega⟩ : Fin 2048) = col 1 k := fun k => Fin.ext (show 512 + k.val = 512 * 1 + k.val by omega)
  have h2 : ∀ k : Fin 512, (⟨1024 + k.val, by omega⟩ : Fin 2048) = col 2 k := fun k => Fin.ext (show 1024 + k.val = 512 * 2 + k.val by omega)
  have h3 : ∀ k : Fin 512, (⟨1536 + k.val, by omega⟩ : Fin 2048) = col 3 k := fun k => Fin.ext (show 1536 + k.val = 512 * 3 + k.val by omega)
  rw [val_main_v78_apply]
  simp only [hl, hr]
  rw [sum_quarters]
  simp only [h0, h1, h2, h3, mixed0_apply, mixed1_apply, mixed2_apply, mixed3_apply]
  rfl

/-- The reference's result is the layer's. -/
theorem last_apply (d : Fin 1024) : (val_main_v92 (F := Ideal) x0 x1 x2 x3 x4 x5 x6 : FVec Ideal S4x8192x1024 .f32) (ix3 b t d)
    = entry (fun s k => x0 (ix3 b s k)) (fun k => x1 (ix1 k)) (fun k e => x3 (ix2 k e)) (fun g k e => x4 (ix3 g k e)) (fun e => x5 (ix1 e)) (fun e d => x6 (ix2 e d)) (fun k => x2 (ix1 k)) t d := by
  unfold entry
  simp only [← product_apply]
  unfold Norm.norm
  generalize hp : val_main_v78 (F := Ideal) x0 x1 x3 x4 x5 x6 = p
  pointwise [val_main_v92, val_main_v91, val_main_v90, val_main_v89, val_main_v88, val_main_v87, val_main_v86, val_main_v85, val_main_v84,
    val_main_v83, val_main_v82, val_main_v81, val_main_v80, val_main_v79, val_main_cst_13, val_main_cst_14, val_main_cst_15, hp]

end Cert.Odd

end
-- ==== Proof.OddEquation.lean ====
/- The odd layer: kernel and reference end with the same array. -/
module

public import proofs.«01_k».proof.Defs
public import proofs.«01_k».proof.Proof.OddArray
public import proofs.«01_k».proof.Proof.OddReference
public import proofs.«01_k».proof.Proof.Gen.Reference2Ideal.Run

@[expose] public section

set_option maxRecDepth 16384

noncomputable section

namespace Cert.Odd

open Idealize.ShloMosaic Idealize.SL.Sem

/-- The reference's result is the kernel's. -/
theorem reference_eq (x : Vec Ideal Cert.Kernel2Ideal.S4x8192x1024 .f32) (g1 g2 : Vec Ideal Cert.Kernel2Ideal.S1024 .f32)
    (wi : Vec Ideal Cert.Kernel2Ideal.S1024x4096 .f32) (pw : Vec Ideal Cert.Kernel2Ideal.S4x512x512 .f32)
    (ps : Vec Ideal Cert.Kernel2Ideal.S2048 .f32) (wo : Vec Ideal Cert.Kernel2Ideal.S2048x1024 .f32) :
    Cert.Reference2Ideal.Read.val_main_v92 (F := Ideal) x g1 g2 wi pw ps wo = result x g1 g2 wi pw ps wo := by
  funext i
  obtain ⟨b, t, d, rfl⟩ : ∃ (b : Fin 4) (t : Fin 8192) (d : Fin 1024), i = ix3 b t d :=
    ⟨i 0, i 1, i 2, funext fun k => match k with | ⟨0, _⟩ => rfl | ⟨1, _⟩ => rfl | ⟨2, _⟩ => rfl⟩
  exact last_apply x g1 g2 wi pw ps wo b t d

/-- The reference is host code only: it uses no semaphore, and its arguments stay. -/
theorem reference_frame : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Kernel and reference, from arguments that agree, end with equal results. -/
theorem equation : Cert.algebraic_Kernel2Ideal_Reference2Ideal := by
  intro m g m' g' hpre hagree
  refine ⟨fun c => result
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6)), ?_, ?_⟩
  · refine (θ_run Cert.Kernel2Ideal.defs _ _).mono (fun r h c => ⟨(h c).1.trans ?_, (h c).2⟩) (Cert.Kernel2Ideal.Value.run_blocks (F := Ideal) m g)
    exact arr_eq m c
  · refine (θ_run Cert.Reference2Ideal.defs _ _).mono (fun r h c => ⟨(h c).1.trans ?_, (h c).2⟩) (Cert.Reference2Ideal.Value.run (F := Ideal) m' g')
    obtain ⟨h0, h1, h2, h3, h4, h5, h6⟩ := hagree c
    rw [Cert.Reference2Ideal.Read.val_main_v92_eq, h0, h1, h2, h3, h4, h5, h6]
    exact reference_eq _ _ _ _ _ _ _

end Cert.Odd

end
-- ==== Proof.OutBlock.lean ====
/- One grid point of the output projection: 512 rows of the two mixers' outputs against the two halves of the
   projection, normalised, and added to the rows of the residual stream. -/
module

public import proofs.«01_k».proof.Proof.Norm
public import proofs.«01_k».proof.Proof.Gen.Kernel3Ideal.Skeleton
public import Idealize.ShloMosaic.Lib.Pointwise

@[expose] public section

set_option maxRecDepth 16384

noncomputable section

namespace Cert.OutProj

open Cert.Kernel3Ideal Cert.Kernel3Ideal.Gen Idealize.ShloMosaic

variable (A B : Vec Ideal S512x1024 .bf16) (Wa Wb : Vec Ideal S1024x1024 .bf16) (X : Vec Ideal S512x1024 .f32) (G : Vec Ideal S1x1024 .f32)

/-- What a grid point stores: the residual rows plus the normalised product. -/
theorem pay1_apply (r : Fin 512) (d : Fin 1024) : k0_pay1 A Wa B Wb X G (ix2 r d)
    = X (ix2 r d) + Norm.norm (fun e => (∑ k : Fin 1024, A (ix2 r k) * Wa (ix2 k e)) + ∑ k : Fin 1024, B (ix2 r k) * Wb (ix2 k e))
        (fun e => G (ix2 0 e)) d := by
  unfold Norm.norm
  pointwise [k0_pay1]

end Cert.OutProj

end
-- ==== Proof.OutArray.lean ====
/- The output projection's result array, put together from the blocks the grid points write. -/
module

public import proofs.«01_k».proof.Proof.OutBlock
public import proofs.«01_k».proof.Proof.Gen.Kernel3Ideal.Value
public import Idealize.ShloMosaic.Lib.Pipeline.Covers
public import Idealize.ShloMosaic.Lib.Pipeline.ValueKit

@[expose] public section

set_option maxRecDepth 16384

noncomputable section

namespace Cert.OutProj

open Cert.Kernel3Ideal Cert.Kernel3Ideal.Gen Idealize.ShloMosaic Idealize.ShloMosaic.TcCoe Idealize.SL.Sem

/-- One element of the result, row `r` and column `d`: the residual plus the normalised row of the product of the two
    mixers' outputs, side by side, with the projection. -/
def entry (a b : Fin 32768 → Fin 1024 → EReal) (w : Fin 2048 → Fin 1024 → EReal) (x : Fin 32768 → Fin 1024 → EReal)
    (g : Fin 1024 → EReal) (r : Fin 32768) (d : Fin 1024) : EReal :=
  x r d + Norm.norm (fun e => (∑ k : Fin 1024, a r k * w ⟨k.val, by omega⟩ e) + ∑ k : Fin 1024, b r k * w ⟨1024 + k.val, by omega⟩ e) g d

theorem word64 : ∀ a : Fin 64, (BitVec.ofNat 32 a.val).toNat = a.val := by decide

/-- A grid point's block of rows. -/
abbrev rowBlk (i : grid0.Coords) : Fin 64 := i 0

section
variable (m : (ℓ : Loc nD τ sig) → Buf (Elt Ideal) ℓ) (c : Dev nD) (t : Fin cfg0.N)

theorem index0 : win0_0.index t = ![(rowBlk (grid0.coords t)).val, 0] := by
  funext a
  match a with
  | ⟨0, _⟩ => exact word64 (rowBlk (grid0.coords t))
  | ⟨1, _⟩ => rfl

theorem index1 : win0_1.index t = ![(rowBlk (grid0.coords t)).val, 0] := index0 t
theorem index4 : win0_4.index t = ![(rowBlk (grid0.coords t)).val, 0] := index0 t
theorem index6 : win0_6.index t = ![(rowBlk (grid0.coords t)).val, 0] := index0 t

/-- Row `r` of the grid point's block, as a row of the array. -/
def row (r : Fin 512) : Fin 32768 :=
  ⟨512 * (rowBlk (grid0.coords t)).val + r.val, by have := (rowBlk (grid0.coords t)).isLt; omega⟩

/-- A row block's coordinates in its array. -/
theorem emb_row (W : Fin 7) (i j : S32768x1024.Idx) (h0 : (i 0).val = (j 0).val) (h1 : (i 1).val = (j 1).val) : i = j := by
  funext a
  apply Fin.ext
  match a with
  | ⟨0, _⟩ => exact h0
  | ⟨1, _⟩ => exact h1

theorem iblk0_apply (r : Fin 512) (k : Fin 1024) : (iblk m c 0 t : Vec Ideal S512x1024 .bf16) (ix2 r k)
    = (m ((c : Thread nD τ).loc main_arg0) : Vec Ideal S32768x1024 .bf16) (ix2 (row t r) k) := by
  blk_simp [iblk]
  rw [V_main_arg0]
  refine congrArg _ (emb_row 0 _ _ ?_ ?_) <;> blk_simp [index0]
  show (rowBlk (grid0.coords t)).val * 512 + r.val = 512 * (rowBlk (grid0.coords t)).val + r.val; omega

theorem iblk1_apply (r : Fin 512) (k : Fin 1024) : (iblk m c 1 t : Vec Ideal S512x1024 .bf16) (ix2 r k)
    = (m ((c : Thread nD τ).loc main_arg1) : Vec Ideal S32768x1024 .bf16) (ix2 (row t r) k) := by
  blk_simp [iblk]
  rw [V_main_arg1]
  refine congrArg _ (emb_row 0 _ _ ?_ ?_) <;> blk_simp [index1]
  show (rowBlk (grid0.coords t)).val * 512 + r.val = 512 * (rowBlk (grid0.coords t)).val + r.val; omega

theorem iblk4_apply (r : Fin 512) (k : Fin 1024) : (iblk m c 4 t : Vec Ideal S512x1024 .f32) (ix2 r k)
    = (m ((c : Thread nD τ).loc main_arg3) : Vec Ideal S32768x1024 .f32) (ix2 (row t r) k) := by
  blk_simp [iblk]
  rw [V_main_arg3]
  refine congrArg _ (emb_row 0 _ _ ?_ ?_) <;> blk_simp [index4]
  show (rowBlk (grid0.coords t)).val * 512 + r.val = 512 * (rowBlk (grid0.coords t)).val + r.val; omega

/-- The first half of the projection. -/
theorem iblk2_apply (k e : Fin 1024) : (iblk m c 2 t : Vec Ideal S1024x1024 .bf16) (ix2 k e)
    = (m ((c : Thread nD τ).loc main_arg2) : Vec Ideal S2048x1024 .f32) (ix2 ⟨k.val, by omega⟩ e) := by
  blk_simp [iblk]
  have h : (win0_2.blk t).view.emb (ix2 k e) = (ix2 k e : S1024x1024.Idx) := by
    funext a
    apply Fin.ext
    match a with
    | ⟨0, _⟩ => blk_simp; show 0 * 1024 + k.val = k.val; omega
    | ⟨1, _⟩ => blk_simp; show 0 * 1024 + e.val = e.val; omega
  rw [h]
  show (extractStridedSlice S1024x1024 ![0, 0] (truncf .bf16 (m ((c : Thread nD τ).loc main_arg2) : FVec Ideal S2048x1024 .f32) bitsLt_bf16_f32 : FVec Ideal S2048x1024 .bf16) slices_S2048x1024_S1024x1024_0_0 : FVec Ideal S1024x1024 .bf16) (ix2 k e) = _
  pointwise

/-- The second half of the projection. -/
theorem iblk3_apply (k e : Fin 1024) : (iblk m c 3 t : Vec Ideal S1024x1024 .bf16) (ix2 k e)
    = (m ((c : Thread nD τ).loc main_arg2) : Vec Ideal S2048x1024 .f32) (ix2 ⟨1024 + k.val, by omega⟩ e) := by
  blk_simp [iblk]
  have h : (win0_3.blk t).view.emb (ix2 k e) = (ix2 k e : S1024x1024.Idx) := by
    funext a
    apply Fin.ext
    match a with
    | ⟨0, _⟩ => blk_simp; show 0 * 1024 + k.val = k.val; omega
    | ⟨1, _⟩ => blk_simp; show 0 * 1024 + e.val = e.val; omega
  rw [h]
  show (extractStridedSlice S1024x1024 ![1024, 0] (truncf .bf16 (m ((c : Thread nD τ).loc main_arg2) : FVec Ideal S2048x1024 .f32) bitsLt_bf16_f32 : FVec Ideal S2048x1024 .bf16) slices_S2048x1024_S1024x1024_1024_0 : FVec Ideal S1024x1024 .bf16) (ix2 k e) = _
  pointwise

/-- The gain. -/
theorem iblk5_apply (e : Fin 1024) : (iblk m c 5 t : Vec Ideal S1x1024 .f32) (ix2 0 e)
    = (m ((c : Thread nD τ).loc main_arg4) : Vec Ideal S1024 .f32) (ix1 e) := by
  blk_simp [iblk]
  have h : (win0_5.blk t).view.emb (ix2 0 e) = (ix2 0 e : S1x1024.Idx) := by
    funext a
    apply Fin.ext
    match a with
    | ⟨0, _⟩ => blk_simp; rfl
    | ⟨1, _⟩ => blk_simp; show 0 * 1024 + e.val = e.val; omega
  rw [h]
  show (broadcastInDim S1x1024 ![1] bcast_S1024_S1x1024_1 (m ((c : Thread nD τ).loc main_arg4) : FVec Ideal S1024 .f32) : FVec Ideal S1x1024 .f32) (ix2 0 e) = _
  pointwise

/-- The result as an array, from the argument arrays. -/
def result (a b : Vec Ideal S32768x1024 .bf16) (w : Vec Ideal S2048x1024 .f32) (x : Vec Ideal S32768x1024 .f32) (g : Vec Ideal S1024 .f32) :
    Vec Ideal S32768x1024 .f32 := fun y =>
  entry (fun r k => a (ix2 r k)) (fun r k => b (ix2 r k)) (fun k e => w (ix2 k e)) (fun r k => x (ix2 r k)) (fun e => g (ix1 e)) (y 0) (y 1)

theorem arr_eq : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ ((cfg0.win 6).covers_of_indexMap_surj rfl (by decide) fun β => ?_) fun t hf y => ?_
  · have b0 : (β 0).val < 64 := (β 0).isLt
    have b1 : (β 1).val < 1 := (β 1).isLt
    refine ⟨fun | ⟨0, _⟩ => ⟨(β 0).val, b0⟩, fun a => ?_⟩
    match a with
    | ⟨0, _⟩ => exact word64 ⟨(β 0).val, b0⟩
    | ⟨1, _⟩ => show 0 = (β 1).val; omega
  blk_simp
  rw [after0_6]
  obtain ⟨r, d, hy⟩ : ∃ (r : Fin 512) (d : Fin 1024), y = (ix2 r d : S512x1024.Idx) :=
    ⟨⟨(y 0).val, (y 0).isLt⟩, ⟨(y 1).val, (y 1).isLt⟩, by
      funext a
      match a with
      | ⟨0, _⟩ => rfl
      | ⟨1, _⟩ => rfl⟩
  subst hy
  have e : (win0_6.blk t).view.emb (ix2 r d) = (ix2 (row t r) d : S32768x1024.Idx) := by
    refine emb_row 0 _ _ ?_ ?_ <;> blk_simp [index6]
    show (rowBlk (grid0.coords t)).val * 512 + r.val = 512 * (rowBlk (grid0.coords t)).val + r.val; omega
  show _ = result _ _ _ _ _ ((win0_6.blk t).view.emb (ix2 r d))
  rw [e]
  unfold out0_6
  frame_out
  rw [pay1_apply]
  simp only [iblk0_apply, iblk1_apply, iblk2_apply, iblk3_apply, iblk4_apply, iblk5_apply]
  rfl

end

end Cert.OutProj

end
-- ==== Proof.OutEquation.lean ====
/- The output projection: what the reference computes, and that kernel and reference end with the same array. -/
module

public import proofs.«01_k».proof.Defs
public import proofs.«01_k».proof.Proof.OutArray
public import proofs.«01_k».proof.Proof.Gen.Reference3Ideal.Run
public import proofs.«01_k».proof.Proof.Gen.Reference3Ideal.Read

@[expose] public section

set_option maxRecDepth 16384

noncomputable section

namespace Cert.OutProj

open Idealize.ShloMosaic Idealize.SL.Sem

section Reference
open Cert.Reference3Ideal Cert.Reference3Ideal.Read

variable (a b : Vec Ideal Cert.Kernel3Ideal.S32768x1024 .bf16) (w : Vec Ideal Cert.Kernel3Ideal.S2048x1024 .f32)
  (x : Vec Ideal Cert.Kernel3Ideal.S32768x1024 .f32) (g : Vec Ideal Cert.Kernel3Ideal.S1024 .f32)

/-- The first half of a row of the two outputs side by side. -/
theorem concat_left (r : Fin 32768) (k : Fin 1024) :
    (val_main_v2 (F := Ideal) a b : FVec Ideal S32768x2048 .f32) (ix2 r ⟨k.val, by omega⟩) = a (ix2 r k) := by
  have hk := k.isLt
  pointwise [val_main_v2, val_main_v0, val_main_v1]

/-- The second half. -/
theorem concat_right (r : Fin 32768) (k : Fin 1024) :
    (val_main_v2 (F := Ideal) a b : FVec Ideal S32768x2048 .f32) (ix2 r ⟨1024 + k.val, by omega⟩) = b (ix2 r k) := by
  have hk := k.isLt
  pointwise [val_main_v2, val_main_v0, val_main_v1]

/-- A row of the product, its sum split at the seam. -/
theorem product_apply (r : Fin 32768) (e : Fin 1024) :
    (val_main_v3 (F := Ideal) a b w : FVec Ideal S32768x1024 .f32) (ix2 r e)
      = (∑ k : Fin 1024, a (ix2 r k) * w (ix2 ⟨k.val, by omega⟩ e)) + ∑ k : Fin 1024, b (ix2 r k) * w (ix2 ⟨1024 + k.val, by omega⟩ e) := by
  have hl : ∀ k : Fin 2048, lidx_main_v3 (ix2 r e) k = ix2 r k := fun k => funext fun i => match i with | ⟨0, _⟩ => rfl | ⟨1, _⟩ => rfl
  have hr : ∀ k : Fin 2048, ridx_main_v3 (ix2 r e) k = ix2 k e := fun k => funext fun i => match i with | ⟨0, _⟩ => rfl | ⟨1, _⟩ => rfl
  rw [val_main_v3_apply]
  simp only [hl, hr]
  rw [Norm.sum_halves]
  simp only [concat_left, concat_right]

/-- The reference's result is the kernel's. -/
theorem reference_eq : val_main_v17 (F := Ideal) a b w x g = result a b w x g := by
  funext i
  obtain ⟨r, d, rfl⟩ : ∃ (r : Fin 32768) (d : Fin 1024), i = ix2 r d :=
    ⟨i 0, i 1, funext fun k => match k with | ⟨0, _⟩ => rfl | ⟨1, _⟩ => rfl⟩
  show _ = entry _ _ _ _ _ r d
  unfold entry Norm.norm
  generalize hp : val_main_v3 (F := Ideal) a b w = p
  pointwise [val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]
  subst hp
  simp only [product_apply]

end Reference

/-- The reference is host code only: it uses no semaphore, and its arguments stay. -/
theorem reference_frame : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Kernel and reference, from arguments that agree, end with equal results. -/
theorem equation : Cert.algebraic_Kernel3Ideal_Reference3Ideal := by
  intro m g m' g' hpre hagree
  refine ⟨fun c => result (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)), ?_, ?_⟩
  · refine (θ_run Cert.Kernel3Ideal.defs _ _).mono (fun r h c => ⟨(h c).1.trans ?_, (h c).2⟩) (Cert.Kernel3Ideal.Value.run_blocks (F := Ideal) m g)
    exact arr_eq m c
  · refine (θ_run Cert.Reference3Ideal.defs _ _).mono (fun r h c => ⟨(h c).1.trans ?_, (h c).2⟩) (Cert.Reference3Ideal.Value.run (F := Ideal) m' g')
    obtain ⟨h0, h1, h2, h3, h4⟩ := hagree c
    rw [Cert.Reference3Ideal.Read.val_main_v17_eq, h0, h1, h2, h3, h4]
    exact reference_eq _ _ _ _ _

end Cert.OutProj

end
-- ==== Proof.InBodyIdeal.lean ====
/- The body of the input projection at one grid point: what its stores leave in the staging buffers and in the scratch
   array, at a first point of a row block and at a later one. -/
module

public import proofs.«01_k».proof.Proof.Gen.Kernel4Ideal.Frame
public import proofs.«01_k».proof.Proof.Gen.Kernel4Ideal.Skeleton
public import Idealize.ShloMosaic.Lib.Pipeline.ValueKit
public import Idealize.ShloMosaic.Lib.VecWindow
public import Idealize.ShloMosaic.Lib.Claim

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition: the point is the first of its row block. -/
abbrev first (i : grid0.Coords) : Prop := k0_cond1 i = 1#1

section Body

variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1024x1024 .bf16) (h4 : a4.IsWhole) (a5 : Memref sig .tc .vmem S1x1024 .f32) (h5 : a5.IsWhole)
  (a6 : Memref sig .tc .vmem S1024x128 .bf16) (h6 : a6.IsWhole) (a7 : Memref sig .tc .vmem S1x128 .f32) (h7 : a7.IsWhole)
  (a8 : Memref sig .tc .vmem S1024x1024 .bf16) (h8 : a8.IsWhole) (a9 : Memref sig .tc .vmem S1024x128 .f32) (h9 : a9.IsWhole)
  (a10 : Memref sig .tc .vmem S1024x1024 .bf16) (h10 : a10.IsWhole)
  (X : Vec F S1024x1024 .f32) (G : Vec F S1x1024 .f32) (W : Vec F S1024x1024 .bf16) (C : Vec F S1x1024 .f32)
  (Wg : Vec F S1024x128 .bf16) (B : Vec F S1x128 .f32) (H : Vec F S1024x1024 .bf16) (Y : Vec F S1024x128 .f32)

/-- The six inputs' buffers, each at its block. -/
abbrev inputs : sProp 𝕄 :=
  iprop(owns (c : Thread nD τ) a2 fullShare X ∗ owns (c : Thread nD τ) a3 fullShare G ∗ owns (c : Thread nD τ) a4 fullShare W
    ∗ owns (c : Thread nD τ) a5 fullShare C ∗ owns (c : Thread nD τ) a6 fullShare Wg ∗ owns (c : Thread nD τ) a7 fullShare B)

set_option maxHeartbeats 1000000 in
/-- At the first point of a row block: the scratch array takes the normalised rows, the gates' buffer their product with
    the gate weights plus the bias, and the output's buffer their scaled product with the point's columns. -/
theorem body_first (hc : first i) (E : Set ℕ) (K : PUnit → sProp 𝕄) :
    iprop(inputs c a2 a3 a4 a5 a6 a7 X G W C Wg B ∗ (∃ d, owns (c : Thread nD τ) a8 fullShare d)
        ∗ (∃ d, owns (c : Thread nD τ) a9 fullShare d) ∗ (∃ d, owns (c : Thread nD τ) a10 fullShare d)
        ∗ (iprop(inputs c a2 a3 a4 a5 a6 a7 X G W C Wg B ∗ owns (c : Thread nD τ) a8 fullShare (k0_pay4 (k0_pay2 X G) W C)
            ∗ owns (c : Thread nD τ) a9 fullShare (k0_pay3 X G Wg B) ∗ owns (c : Thread nD τ) a10 fullShare (k0_pay2 X G)) -∗ K ⟨⟩))
      ⊢ wp frame (wpE (defs₀ (F := F)) Variants.none c none) E
          (cc0_even_in_proj i a2 h2 a3 h3 a4 h4 a5 h5 a6 h6 a7 h7 a8 h8 a9 h9 a10 h10) K := by
  simp only [cc0_even_in_proj_eq_skeleton]; unfold cc0_even_in_proj_skel
  unfold inputs owns
  iintro ⟨⟨⟨%f2, %e2, H2⟩, ⟨%f3, %e3, H3⟩, ⟨%f4, %e4, H4⟩, ⟨%f5, %e5, H5⟩, ⟨%f6, %e6, H6⟩, ⟨%f7, %e7, H7⟩⟩, ⟨%d8, %f8, -, H8⟩, ⟨%d9, %f9, -, H9⟩, ⟨%d10, %f10, -, H10⟩, Hk⟩
  obtain rfl := h2.eq_unread e2; obtain rfl := h3.eq_unread e3; obtain rfl := h4.eq_unread e4
  obtain rfl := h5.eq_unread e5; obtain rfl := h6.eq_unread e6; obtain rfl := h7.eq_unread e7
  sl_exec (disch := first | sl_exact hc)
  sl_step
  iapply Hk
  isplitl [H2 H3 H4 H5 H6 H7]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr
    swap; · iexact H8
    ipureintro
    rw [View.read_writes_full]
    unfold body_first.sl.v3 body_first.sl.H10_1
    frame_out
  isplitl [H9]
  · iexists _; isplitr
    swap; · iexact H9
    ipureintro
    rw [View.read_writes_full]
    frame_out
  iexists _; isplitr
  swap; · iexact H10
  ipureintro
  unfold body_first.sl.H10_1
  rw [View.read_writes_full]
  frame_out

set_option maxHeartbeats 1000000 in
/-- At a later point of a row block: the scratch array still holds the normalised rows, and only the output's buffer is
    stored into. -/
theorem body_later (hc : ¬first i) (E : Set ℕ) (K : PUnit → sProp 𝕄) :
    iprop(inputs c a2 a3 a4 a5 a6 a7 X G W C Wg B ∗ (∃ d, owns (c : Thread nD τ) a8 fullShare d) ∗ owns (c : Thread nD τ) a10 fullShare H
        ∗ (iprop(inputs c a2 a3 a4 a5 a6 a7 X G W C Wg B ∗ owns (c : Thread nD τ) a8 fullShare (k0_pay4 H W C)
            ∗ owns (c : Thread nD τ) a10 fullShare H) -∗ K ⟨⟩))
      ⊢ wp frame (wpE (defs₀ (F := F)) Variants.none c none) E
          (cc0_even_in_proj i a2 h2 a3 h3 a4 h4 a5 h5 a6 h6 a7 h7 a8 h8 a9 h9 a10 h10) K := by
  simp only [cc0_even_in_proj_eq_skeleton]; unfold cc0_even_in_proj_skel
  unfold inputs owns
  iintro ⟨⟨⟨%f2, %e2, H2⟩, ⟨%f3, %e3, H3⟩, ⟨%f4, %e4, H4⟩, ⟨%f5, %e5, H5⟩, ⟨%f6, %e6, H6⟩, ⟨%f7, %e7, H7⟩⟩, ⟨%d8, %f8, -, H8⟩, ⟨%f10, %e10, H10⟩, Hk⟩
  obtain rfl := h2.eq_unread e2; obtain rfl := h3.eq_unread e3; obtain rfl := h4.eq_unread e4
  obtain rfl := h5.eq_unread e5; obtain rfl := h6.eq_unread e6; obtain rfl := h7.eq_unread e7
  obtain rfl := h10.eq_unread e10
  sl_exec (disch := first | sl_exact hc)
  sl_step
  iapply Hk
  isplitl [H2 H3 H4 H5 H6 H7]
  · isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr
    swap; · iexact H8
    ipureintro
    rw [View.read_writes_full]
    frame_out
  iexists _; isplitr; · ipureintro; exact h10.read_unread _
  iexact H10

end Body

end Cert.Kernel4Ideal.InProj

end
-- ==== Proof.InFrameIdeal.lean ====
/- The frame of the input projection: the gates' block is stored at the first of its nine points and written back after the
   last, and the normalised rows stay in the scratch array from the first point to the last. -/
module

public import proofs.«01_k».proof.Proof.InBodyIdeal
public import Idealize.ShloMosaic.Lib.Pipeline.TableIdle

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points : cfg0.N = 288 := N_0

/-- The body's condition holds at every ninth point. -/
theorem first_iff : ∀ t : Fin cfg0.N, first (grid0.coords t) ↔ t.val % 9 = 0 :=
  (fun t => by
    have ht : t.val < 288 := Nat.lt_of_lt_of_eq t.isLt N_0
    have e0 : (grid0.coords t 0).val = t.val / 9 % 32 := Pipeline.Grid.coords_val t 0 (by decide) rfl
    have e1 : (grid0.coords t 1).val = t.val / 1 % 9 := Pipeline.Grid.coords_val t 1 (by decide) rfl
    simp only [first, k0_cond1, e0, e1]
    word_cmp
   : ∀ t : Fin grid0.N, first (grid0.coords t) ↔ t.val % 9 = 0)

/-- The first point of the row block of point `n`. -/
def start (n : ℕ) (h : n < cfg0.N) : Fin cfg0.N := ⟨9 * (n / 9), by omega⟩

theorem start_of_first (t : Fin cfg0.N) (h : t.val % 9 = 0) : start t.val t.isLt = t :=
  Fin.ext (show 9 * (t.val / 9) = t.val by omega)

theorem start_pred (n : ℕ) (h : n < cfg0.N) (h' : n - 1 < cfg0.N) (hn : n % 9 ≠ 0) : start (n - 1) h' = start n h :=
  Fin.ext (show 9 * ((n - 1) / 9) = 9 * (n / 9) by omega)

/-- The normalised rows that the scratch array holds after point `n`. -/
def hidden (c : Dev nD) (n : ℕ) (h : n < cfg0.N) : Vec F S1024x1024 .bf16 :=
  k0_pay2 (iblk m c 0 (start n h)) (iblk m c 1 (start n h))

/-- What the gates' buffer holds after point `n`. -/
def gates (c : Dev nD) (n : ℕ) (h : n < cfg0.N) : Vec F S1024x128 .f32 :=
  k0_pay3 (iblk m c 0 (start n h)) (iblk m c 1 (start n h)) (iblk m c 4 (start n h)) (iblk m c 5 (start n h))

/-- What holds between the points: the scratch array at the normalised rows, once the first point is past. -/
def between (c : Dev nD) : (n : ℕ) → n ≤ cfg0.N → sProp 𝕄
  | 0, _ => Pipeline.ΦA spec0 c
  | n + 1, h => iprop(owns (c : Thread nD τ) (Memref.whole cc0_scratch0) fullShare (hidden m c n h) ∗ (∃ r, prngReg c r))

theorem between_zero (c : Dev nD) (n : ℕ) (h : n ≤ cfg0.N) (hn : n = 0) : between m c n h = Pipeline.ΦA spec0 c := by
  subst hn; rfl

theorem between_pos (c : Dev nD) (n : ℕ) (h : n ≤ cfg0.N) (hn : n ≠ 0) : between m c n h
    = iprop(owns (c : Thread nD τ) (Memref.whole cc0_scratch0) fullShare (hidden m c (n - 1) (by omega)) ∗ (∃ r, prngReg c r)) := by
  cases n with
  | zero => exact absurd rfl hn
  | succ n => rfl

theorem between_succ (c : Dev nD) (n : ℕ) (h : n < cfg0.N) : between m c (n + 1) h
    = iprop(owns (c : Thread nD τ) (Memref.whole cc0_scratch0) fullShare (hidden m c n h) ∗ (∃ r, prngReg c r)) := rfl

theorem launched (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- Between two points, the scratch array holds something. -/
theorem between_some (c : Dev nD) (n : ℕ) (h : n ≤ cfg0.N) :
    between m c n h ⊢ iprop((∃ d, owns (c : Thread nD τ) (Memref.whole cc0_scratch0) fullShare d) ∗ (∃ r, prngReg c r)) := by
  by_cases hn : n = 0
  · rw [between_zero m c n h hn, launched]
    try exact Idealize.SL.BI.Entails.refl _
  · rw [between_pos m c n h hn]
    iintro ⟨H, R⟩
    isplitl [H]
    · iexists _; iexact H
    iexact R

/-- What each window's buffer holds after each point, and what holds between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (hidden m c t.val t.isLt) (iblk m c 2 t) (iblk m c 3 t)
    | ⟨7, _⟩ => gates m c t.val t.isLt
  Φ t := between m c t.val (Nat.le_of_lt_succ t.isLt)
  q _ := fullShare
  owed _ := 0

theorem array_eq (c : Dev nD) (w : Fin cfg0.W) : (dats m 0 c).A w = V m c (Pipeline.arrRef spec0 w) := by
  dsimp only [dats]

section Point
variable (c : Dev nD) (t : Fin cfg0.N)

theorem now : (dats m 0 c).Φ t.castSucc = between m c t.val (Nat.le_of_lt t.isLt) := by
  dsimp only [dats]; exact Pipeline.Dat.Φ_castSucc (between m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = k0_pay4 (hidden m c t.val t.isLt) (iblk m c 2 t) (iblk m c 3 t) := by dsimp only [dats]
theorem after7 : (dats m 0 c).after 7 t = gates m c t.val t.isLt := by dsimp only [dats]

theorem before0 (d) : (dats m 0 c).before 0 t d = iblk m c 0 t := before0_0_of m (dats m 0 c) (array_eq m c 0) (after0 m c) t d
theorem before1 (d) : (dats m 0 c).before 1 t d = iblk m c 1 t := before0_1_of m (dats m 0 c) (array_eq m c 1) (after1 m c) t d
theorem before2 (d) : (dats m 0 c).before 2 t d = iblk m c 2 t := before0_2_of m (dats m 0 c) (array_eq m c 2) (after2 m c) t d
theorem before3 (d) : (dats m 0 c).before 3 t d = iblk m c 3 t := before0_3_of m (dats m 0 c) (array_eq m c 3) (after3 m c) t d
theorem before4 (d) : (dats m 0 c).before 4 t d = iblk m c 4 t := before0_4_of m (dats m 0 c) (array_eq m c 4) (after4 m c) t d
theorem before5 (d) : (dats m 0 c).before 5 t d = iblk m c 5 t := before0_5_of m (dats m 0 c) (array_eq m c 5) (after5 m c) t d

/-! The gates' window. -/

theorem idle_iff : cfg0.idle 7 (cfg0.grid.coords t) = true ↔ ¬t.val % 9 = 0 := by
  rw [← first_iff t]
  show (!(k0_cond1 (grid0.coords t) == 1#1)) = true ↔ _
  simp

/-- The gates' buffer holds nothing of the body's own only before the first point of a row block. -/
theorem fresh_eq (n : ℕ) (h : n ≤ cfg0.N) : cfg0.fresh 7 n = decide (n % 9 = 0) :=
  cfg0.fresh_tab 7 (fun n => decide (n % 9 = 0)) rfl (fun t => by
    have hi := idle_iff t
    have hf := flush0_7 t
    by_cases h0 : t.val % 9 = 0
    · have e1 : (cfg0.win 7).flush t = false := by
        rw [← Bool.not_eq_true, hf]; omega
      have e2 : cfg0.idle 7 (cfg0.grid.coords t) = false := by
        rw [← Bool.not_eq_true, hi]; omega
      rw [e1, e2]
      simp only [Bool.false_and, Bool.or_false, decide_eq_false_iff_not]; omega
    · have e2 : cfg0.idle 7 (cfg0.grid.coords t) = true := hi.mpr h0
      by_cases h8 : t.val % 9 = 8
      · rw [hf.mpr h8]
        simp only [Bool.true_or, decide_eq_true_eq]; omega
      · have e1 : (cfg0.win 7).flush t = false := by
          rw [← Bool.not_eq_true, hf]; omega
        rw [e1, e2]
        simp only [h0, decide_false, Bool.and_false, Bool.or_false, decide_eq_false_iff_not]; omega) n h

/-- At a later point of a row block the body finds the gates that the first one left. -/
theorem before7 (h : ¬t.val % 9 = 0) (d) : (dats m 0 c).before 7 t d = gates m c t.val t.isLt := by
  have carry : ∀ s : Fin cfg0.N, ¬s.val % 9 = 0 → (dats m 0 c).after 7 s = (dats m 0 c).after 7 ⟨s.val - 1, by omega⟩ := fun s hs => by
    rw [after7, after7]
    unfold gates
    rw [start_pred s.val s.isLt _ hs]
  rw [(dats m 0 c).before_out_traj 7 rfl (fun _ _ => rfl) (fun s _ hs _ => carry s ((idle_iff s).mp hs)) t.val t rfl d,
    fresh_eq t.val (Nat.le_of_lt t.isLt), if_neg (by simpa using h), ← carry t h, after7]

/-- So there the buffer is left as it has to be, written back or not. -/
theorem leaves_later (h : ¬t.val % 9 = 0) (d) :
    owns (c : Thread nD τ) (st0_7 t) fullShare ((dats m 0 c).before 7 t d) ⊢ (dats m 0 c).leavesExact 7 t := by
  have hi := (idle_iff t).mpr h
  unfold Dat.leavesExact
  rw [hi]
  cases hf : (cfg0.win 7).flush t
  · dsimp only
    iintro H; iexists d; iexact H
  · dsimp only
    rw [before7 m c t h d, after7]
    try exact Idealize.SL.BI.Entails.refl _

theorem leaves_first (h : t.val % 9 = 0) :
    (dats m 0 c).leavesExact 7 t = owns (c : Thread nD τ) (st0_7 t) fullShare (gates m c t.val t.isLt) := by
  have hi : cfg0.idle 7 (cfg0.grid.coords t) = false := by
    rw [← Bool.not_eq_true, idle_iff t]; omega
  unfold Dat.leavesExact
  rw [hi]
  dsimp only
  rw [after7]

/-! The body at a point. -/

def given : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def returned : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t)

set_option maxHeartbeats 6400000 in
/-- The body takes each point's state to the next one's. -/
theorem body_point : given m c t ⊢ wp frame (wpE (defs₀ (F := F)) Variants.none c none) Set.univ (bodyAt0 t) (fun _ => returned m c t) := by
  unfold given returned bodyAt0
  simp only [before0, before1, before2, before3, before4, before5]
  rw [show (dats m 0 c).owesAt () t.succ = (dats m 0 c).owesAt () t.castSucc from rfl,
    after0, after1, after2, after3, after4, after5, after6, now,
    show (dats m 0 c).Φ t.succ = between m c (t.val + 1) t.isLt from rfl, between_succ]
  by_cases h0 : t.val % 9 = 0
  · rw [leaves_first m c t h0]
    unfold hidden gates
    rw [start_of_first t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (between_some m c t.val (Nat.le_of_lt t.isLt)) $$ HΦ
    icases HΦ' with ⟨HS, Hg⟩
    iapply (body_first c (grid0.coords t) _ _ _ _ _ _ _ _ _ _ _ _ _ _ _ _ _ _ (iblk m c 0 t) (iblk m c 1 t) (iblk m c 2 t)
      (iblk m c 3 t) (iblk m c 4 t) (iblk m c 5 t) ((first_iff t).mpr h0) Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [HS]; · iexact HS
    iintro ⟨⟨H0, H1, H2, H3, H4, H5⟩, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [between_pos m c t.val (Nat.le_of_lt t.isLt) (fun h => h0 (by rw [h]))]
    unfold hidden
    rw [start_pred t.val t.isLt _ h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (iblk m c 0 t) (iblk m c 1 t) (iblk m c 2 t)
      (iblk m c 3 t) (iblk m c 4 t) (iblk m c 5 t) _ (fun h => h0 ((first_iff t).mp h)) Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [HS]; · iexact HS
    iintro ⟨⟨H0, H1, H2, H3, H4, H5⟩, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_later m c t h0 d7)
    iexact H7

theorem body_row : defs₀ (F := F) .tc cfg0.body (cfg0.bodyArgs t (cfg0.slots t)) = bodyAt0 t := by
  unfold defs₀; rw [Defs.onTc_tc]

end Point

theorem body_obligation (c : Dev nD) : BodyObligation (dats (F := F) m 0 c) (defs₀ (F := F)) Variants.none () Set.univ := fun t => by
  rw [bigSep_W0, bigSep_W0, body_row]
  exact triple_restated (body_point m c t) rfl .rfl fun _ => .rfl

theorem enters (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem exits (c : Dev nD) : (dats m 0 c).Φ (Fin.last cfg0.N) ⊢ Pipeline.ΦA spec0 c := by
  rw [show (dats m 0 c).Φ (Fin.last cfg0.N) = between m c cfg0.N (le_refl _) from rfl, launched]
  exact between_some m c cfg0.N (le_refl _)

set_option backward.isDefEq.respectTransparency.types false in
/-- The launch: every array ends as the points' write-backs leave it, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := array_eq m) (hin := enters m) (hout := exits m)

theorem run_main : θ_run defs (onTc (τ := τ) (main (F := F))) (s₀ m ρ) (Pipeline.FramePost cfgs (dats m) 0 (V m)) :=
  (θ_run defs _ _).mono (fun _ h => h.1) (run_quiet m ρ)

/-- The frame: the program ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (array_eq m) (run_main m ρ)) ((θ_run defs _ _).mono (fun _ h => h.2) (run_quiet m ρ))

end Cert.Kernel4Ideal.InProj

end
-- ==== Proof.InBlock.lean ====
/- One grid point of the input projection: 1024 normalised rows against 1024 columns of the projection, each column times
   its scale, and the same rows against the columns of the gates, plus their bias. -/
module

public import proofs.«01_k».proof.Proof.Norm
public import proofs.«01_k».proof.Proof.Gen.Kernel4Ideal.Skeleton
public import Idealize.ShloMosaic.Lib.Pointwise

@[expose] public section

set_option maxRecDepth 16384

noncomputable section

namespace Cert.InProj

open Cert.Kernel4Ideal Cert.Kernel4Ideal.Gen Idealize.ShloMosaic

variable (X : Vec Ideal S1024x1024 .f32) (G : Vec Ideal S1x1024 .f32) (Wg : Vec Ideal S1024x128 .bf16) (B : Vec Ideal S1x128 .f32)
  (H W : Vec Ideal S1024x1024 .bf16) (C : Vec Ideal S1x1024 .f32)

/-- The rows after the norm. -/
theorem pay1_apply (r k : Fin 1024) : (k0_pay1 X G : FVec Ideal S1024x1024 .bf16) (ix2 r k)
    = Norm.norm (fun e => X (ix2 r e)) (fun e => G (ix2 0 e)) k := by
  unfold Norm.norm
  pointwise [k0_pay1]

/-- What the scratch array is given: the rows after the norm. -/
theorem pay2_apply (r k : Fin 1024) : (k0_pay2 X G : FVec Ideal S1024x1024 .bf16) (ix2 r k)
    = Norm.norm (fun e => X (ix2 r e)) (fun e => G (ix2 0 e)) k := by
  unfold Norm.norm
  pointwise [k0_pay2, k0_pay1]

/-- What the gates' block is given. -/
theorem pay3_apply (r : Fin 1024) (l : Fin 128) : (k0_pay3 X G Wg B : FVec Ideal S1024x128 .f32) (ix2 r l)
    = (∑ k : Fin 1024, Norm.norm (fun e => X (ix2 r e)) (fun e => G (ix2 0 e)) k * Wg (ix2 k l)) + B (ix2 0 l) := by
  simp only [← pay1_apply]
  unfold k0_pay3
  generalize k0_pay1 X G = p
  pointwise

/-- What the result's block is given. -/
theorem pay4_apply (r d : Fin 1024) : (k0_pay4 H W C : FVec Ideal S1024x1024 .bf16) (ix2 r d)
    = (∑ k : Fin 1024, H (ix2 r k) * W (ix2 k d)) * C (ix2 0 d) := by
  pointwise [k0_pay4]

end Cert.InProj

end
-- ==== Proof.InScale.lean ====
/- The scale of each column of the input projection, as the host writes it: ones, with the columns of the queries
   overwritten by one constant. -/
module

public import proofs.«01_k».proof.Proof.Gen.Kernel4Ideal.Launch
public import Idealize.ShloMosaic.Lib.Routing.OpsOne
public import Idealize.ShloMosaic.Lib.Pointwise

@[expose] public section

set_option maxRecDepth 16384

noncomputable section

namespace Cert.InProj

open Cert.Kernel4Ideal Cert.Kernel4Ideal.Gen Idealize.ShloMosaic Idealize.ShloMosaic.Routing

/-- The written columns and the dimension numbers that place them. -/
abbrev place : ScatterDims S1x9216 S1 S1x1024 := scatter_S1x9216_S1_S1x1024_01_n_1_0

/-- Column `k` of the update lands at column `k` after the start. -/
theorem lands (idx : IVec S1 32) (a : ℕ) (h : (idx (ix1 0)).toInt = (a : Int)) (k : S1x1024.Idx) (d : Fin 9216) :
    place.resultIdx? k idx = some (ix2 0 d) ↔ a + (k 1).val = d.val := by
  have w0 : place.window k 0 = (k 0).val := by
    unfold ScatterDims.window
    rw [dif_pos (by decide)]
    rfl
  have w1 : place.window k 1 = (k 1).val := by
    unfold ScatterDims.window
    rw [dif_pos (by decide)]
    rfl
  have s0 : place.start k idx 0 = 0 := by
    unfold ScatterDims.start
    rw [dif_neg (by decide)]
  have s1 : place.start k idx 1 = (a : Int) := by
    unfold ScatterDims.start
    rw [dif_pos (by decide), ← h]
    refine congrArg (fun i => (idx i).toInt) (funext fun b => ?_)
    match b with
    | ⟨0, _⟩ => exact Subsingleton.elim (α := Fin 1) _ _
  have k0 : (k 0).val < 1 := (k 0).isLt
  refine (resultIdx?_ix2 place k idx (0 : Fin 1) d).trans ?_
  rw [w0, w1, s0, s1]
  show (0 : Int) + ((k 0).val : Int) = (0 : ℕ) ∧ _ ↔ _
  omega

/-- One value `v` written over the columns from 5120 to 6143. -/
theorem scatter_apply (x : FVec Ideal S1x9216 .f32) (idx : IVec S1 32) (h : (idx (ix1 0)).toInt = ((5120 : ℕ) : Int))
    (u : FVec Ideal S1x1024 .f32) (v : EReal) (hu : ∀ k, u k = v) (d : Fin 9216) :
    (Host.scatter place (fun _ b => b) x idx u : FVec Ideal S1x9216 .f32) (ix2 0 d)
      = if 5120 ≤ d.val ∧ d.val < 6144 then v else x (ix2 0 d) := by
  by_cases hd : 5120 ≤ d.val ∧ d.val < 6144
  · rw [if_pos hd]
    refine scatter_set_hit place x idx u _ v (fun k _ => hu k) (ix2 0 ⟨d.val - 5120, by omega⟩) ((lands idx 5120 h _ d).mpr ?_)
    show 5120 + (d.val - 5120) = d.val
    omega
  · rw [if_neg hd]
    refine scatter_set_miss place x idx u _ fun k hk => hd ?_
    have := (lands idx 5120 h k d).mp hk
    have k1 : (k 1).val < 1024 := (k 1).isLt
    omega

/-- The scale of column `d`. -/
def scale (d : Fin 9216) : EReal := if 5120 ≤ d.val ∧ d.val < 6144 then Ideal.ofBits .f32 0x3DB504F3#32 else 1

theorem scale_apply (d : Fin 9216) :
    (Host.scatter place (fun _ b => b) (broadcastInDim S1x9216 ![] bcast_S_S1x9216 (constant S_ .f32 0x3F800000#32 : FVec Ideal S_ .f32))
        (broadcastInDim S1 ![] bcast_S_S1 (constantI S_ 32 5120#32)) (broadcastInDim S1x1024 ![] bcast_S_S1x1024 (constant S_ .f32 0x3DB504F3#32 : FVec Ideal S_ .f32))
        : FVec Ideal S1x9216 .f32) (ix2 0 d) = scale d := by
  rw [scatter_apply _ _ (by rfl) _ (Ideal.ofBits .f32 0x3DB504F3#32) (fun k => by rfl)]
  unfold scale
  congr 1
  pointwise

end Cert.InProj

end
-- ==== Proof.InScaleArray.lean ====
/- The array of the columns' scales that the input projection is launched with. -/
module

public import proofs.«01_k».proof.Proof.InScale
public import proofs.«01_k».proof.Proof.Gen.Kernel4Ideal.Frame
public import Idealize.ShloMosaic.Lib.StableHlo.RunRead

@[expose] public section

set_option maxRecDepth 16384

noncomputable section

namespace Cert.InProj

open Cert.Kernel4Ideal Cert.Kernel4Ideal.Gen Idealize.ShloMosaic Idealize.ShloMosaic.TcCoe

/-- The array of the columns' scales, when the kernel is launched. -/
theorem scale_array (m : (ℓ : Loc nD τ sig) → Buf (Elt Ideal) ℓ) (c : Dev nD) : V m c main_v13
    = (Host.scatter place (fun _ b => b) (broadcastInDim S1x9216 ![] bcast_S_S1x9216 (constant S_ .f32 0x3F800000#32 : FVec Ideal S_ .f32))
        (broadcastInDim S1 ![] bcast_S_S1 (constantI S_ 32 5120#32)) (broadcastInDim S1x1024 ![] bcast_S_S1x1024 (constant S_ .f32 0x3DB504F3#32 : FVec Ideal S_ .f32))
        : FVec Ideal S1x9216 .f32) := by
  show StableHlo.after (List.flatten [hostOps0, hostOps0_1, hostOps0_2, hostOps0_3, hostOps0_4]) _ (Proc.devRef .tc main_v13) = _
  after_reads_simp

end Cert.InProj

end
-- ==== Proof.InArray.lean ====
/- The input projection's two result arrays, put together from the blocks the grid points write. -/
module

public import proofs.«01_k».proof.Proof.InBlock
public import proofs.«01_k».proof.Proof.InScaleArray
public import proofs.«01_k».proof.Proof.InFrameIdeal
public import Idealize.ShloMosaic.Lib.Pipeline.Covers
public import Idealize.ShloMosaic.Lib.Pipeline.ValueKit

@[expose] public section

set_option maxRecDepth 16384

noncomputable section

namespace Cert.InProj

open Cert.Kernel4Ideal Cert.Kernel4Ideal.Gen Cert.Kernel4Ideal.InProj Idealize.ShloMosaic Idealize.ShloMosaic.TcCoe Idealize.SL.Sem

/-- The column of the projection that column `d` of the result is of: the eight columns of the gates are left out. -/
def source (d : Fin 9216) : Fin 9224 := if h : d.val < 5120 then ⟨d.val, by omega⟩ else ⟨d.val + 8, by omega⟩

/-- Lane `l` of the gates' columns, padded with zeros. -/
def gateColumn (w : Fin 1024 → Fin 9224 → EReal) (k : Fin 1024) (l : Fin 128) : EReal :=
  if h : l.val < 8 then w k ⟨5120 + l.val, by omega⟩ else 0

/-- Lane `l` of the gates' bias, padded with zeros. -/
def gateBias (bi bf : Fin 4 → EReal) (l : Fin 128) : EReal :=
  if h : l.val < 4 then bi ⟨l.val, h⟩ else if h' : l.val < 8 then bf ⟨l.val - 4, by omega⟩ else 0

/-- One element of the first result, row `r` and column `d`. -/
def entry (x : Fin 32768 → Fin 1024 → EReal) (g : Fin 1024 → EReal) (w : Fin 1024 → Fin 9224 → EReal) (r : Fin 32768) (d : Fin 9216) : EReal :=
  (∑ k : Fin 1024, Norm.norm (x r) g k * w k (source d)) * scale d

/-- One element of the gates, row `r` and lane `l`. -/
def gateEntry (x : Fin 32768 → Fin 1024 → EReal) (g : Fin 1024 → EReal) (w : Fin 1024 → Fin 9224 → EReal) (bi bf : Fin 4 → EReal)
    (r : Fin 32768) (l : Fin 128) : EReal :=
  (∑ k : Fin 1024, Norm.norm (x r) g k * gateColumn w k l) + gateBias bi bf l

/-- The integer zero as a float. -/
theorem zero_word : FloatOps.sitofp (F := Ideal) FTy.f32 0#32 = 0 := by
  show (((0#32 : BitVec 32).toInt : ℝ) : EReal) = 0
  simp

theorem word32 : ∀ a : Fin 32, (BitVec.ofNat 32 a.val).toNat = a.val := by decide
theorem word9 : ∀ a : Fin 9, (BitVec.ofNat 32 a.val).toNat = a.val := by decide

/-- A grid point's block of rows and its block of columns. -/
abbrev rowBlk (i : grid0.Coords) : Fin 32 := i 0
abbrev colBlk (i : grid0.Coords) : Fin 9 := i 1

section
variable (m : (ℓ : Loc nD τ sig) → Buf (Elt Ideal) ℓ) (c : Dev nD) (t : Fin cfg0.N)

theorem index0 : win0_0.index t = ![(rowBlk (grid0.coords t)).val, 0] := by
  funext a
  match a with
  | ⟨0, _⟩ => exact word32 (rowBlk (grid0.coords t))
  | ⟨1, _⟩ => rfl

theorem index2 : win0_2.index t = ![0, (colBlk (grid0.coords t)).val] := by
  funext a
  match a with
  | ⟨0, _⟩ => rfl
  | ⟨1, _⟩ => exact word9 (colBlk (grid0.coords t))

theorem index3 : win0_3.index t = ![0, (colBlk (grid0.coords t)).val] := index2 t

theorem index6 : win0_6.index t = ![(rowBlk (grid0.coords t)).val, (colBlk (grid0.coords t)).val] := by
  funext a
  match a with
  | ⟨0, _⟩ => exact word32 (rowBlk (grid0.coords t))
  | ⟨1, _⟩ => exact word9 (colBlk (grid0.coords t))

theorem index7 : win0_7.index t = ![(rowBlk (grid0.coords t)).val, 0] := by
  funext a
  match a with
  | ⟨0, _⟩ => exact word32 (rowBlk (grid0.coords t))
  | ⟨1, _⟩ => rfl

/-- The first point of a row block has the same rows. -/
theorem rowBlk_start (h : t.val < cfg0.N) : rowBlk (grid0.coords (start t.val h)) = rowBlk (grid0.coords t) := by
  have e : ∀ s : Fin cfg0.N, (grid0.coords s 0).val = s.val / 9 % 32 := fun s => Pipeline.Grid.coords_val s 0 (by decide) rfl
  refine Fin.ext ((e _).trans ((e _).trans ?_).symm)
  show t.val / 9 % 32 = 9 * (t.val / 9) / 9 % 32
  omega

/-- Row `r` of the grid point's block, as a row of the array. -/
def row (r : Fin 1024) : Fin 32768 :=
  ⟨1024 * (rowBlk (grid0.coords t)).val + r.val, by have := (rowBlk (grid0.coords t)).isLt; omega⟩

/-- Column `d` of the grid point's block, as a column of the array. -/
def col (d : Fin 1024) : Fin 9216 :=
  ⟨1024 * (colBlk (grid0.coords t)).val + d.val, by have := (colBlk (grid0.coords t)).isLt; omega⟩

theorem row_start (h : t.val < cfg0.N) (r : Fin 1024) : row (start t.val h) r = row t r :=
  Fin.ext (by show 1024 * (rowBlk _).val + r.val = 1024 * (rowBlk _).val + r.val; rw [rowBlk_start])

theorem iblk0_apply (r k : Fin 1024) : (iblk m c 0 t : Vec Ideal S1024x1024 .f32) (ix2 r k)
    = (m ((c : Thread nD τ).loc main_arg0) : Vec Ideal S32768x1024 .f32) (ix2 (row t r) k) := by
  blk_simp [iblk]
  rw [V_main_arg0]
  refine congrArg _ (funext fun a => Fin.ext ?_)
  match a with
  | ⟨0, _⟩ =>
    blk_simp [index0]
    show (rowBlk (grid0.coords t)).val * 1024 + r.val = 1024 * (rowBlk (grid0.coords t)).val + r.val; omega
  | ⟨1, _⟩ =>
    blk_simp [index0]

/-- The gain of the norm. -/
theorem iblk1_apply (e : Fin 1024) : (iblk m c 1 t : Vec Ideal S1x1024 .f32) (ix2 0 e)
    = (m ((c : Thread nD τ).loc main_arg1) : Vec Ideal S1024 .f32) (ix1 e) := by
  blk_simp [iblk]
  have h : (win0_1.blk t).view.emb (ix2 0 e) = (ix2 0 e : S1x1024.Idx) := by
    funext a
    apply Fin.ext
    match a with
    | ⟨0, _⟩ => blk_simp; rfl
    | ⟨1, _⟩ => blk_simp; show 0 * 1024 + e.val = e.val; omega
  rw [h]
  show (broadcastInDim S1x1024 ![1] bcast_S1024_S1x1024_1 (m ((c : Thread nD τ).loc main_arg1) : FVec Ideal S1024 .f32) : FVec Ideal S1x1024 .f32) (ix2 0 e) = _
  pointwise

/-- The projection without the gates' columns, at column `d`. -/
theorem main_columns (w : FVec Ideal S1024x9224 .f32) (k : Fin 1024) (d : Fin 9216) :
    (truncf .bf16 (concatenate S1024x9216 1 [⟨S1024x5120, extractStridedSlice S1024x5120 ![0, 0] w slices_S1024x9224_S1024x5120_0_0⟩,
        ⟨S1024x4096, extractStridedSlice S1024x4096 ![0, 5128] w slices_S1024x9224_S1024x4096_0_5128⟩] concatenates_S1024x5120_S1024x4096_S1024x9216_d1
        : FVec Ideal S1024x9216 .f32) bitsLt_bf16_f32 : FVec Ideal S1024x9216 .bf16) (ix2 k d) = w (ix2 k (source d)) := by
  have hd := d.isLt
  unfold source
  by_cases h : d.val < 5120
  · rw [dif_pos h]
    pointwise
    rw [dif_pos h]
  · rw [dif_neg h]
    pointwise
    rw [dif_neg h]
    refine congrArg (fun e => w (ix2 k e)) (Fin.ext ?_)
    show 5128 + (d.val - 5120) = d.val + 8
    omega

theorem iblk2_apply (k d : Fin 1024) : (iblk m c 2 t : Vec Ideal S1024x1024 .bf16) (ix2 k d)
    = (m ((c : Thread nD τ).loc main_arg2) : Vec Ideal S1024x9224 .f32) (ix2 k (source (col t d))) := by
  blk_simp [iblk]
  have h : (win0_2.blk t).view.emb (ix2 k d) = (ix2 k (col t d) : S1024x9216.Idx) := by
    funext a
    apply Fin.ext
    match a with
    | ⟨0, _⟩ => blk_simp [index2]
    | ⟨1, _⟩ =>
      blk_simp [index2]
      show (colBlk (grid0.coords t)).val * 1024 + d.val = 1024 * (colBlk (grid0.coords t)).val + d.val; omega
  rw [h]
  exact main_columns (m ((c : Thread nD τ).loc main_arg2)) k (col t d)

/-- The scale of a column of the block. -/
theorem iblk3_apply (d : Fin 1024) : (iblk m c 3 t : Vec Ideal S1x1024 .f32) (ix2 0 d) = scale (col t d) := by
  blk_simp [iblk]
  have h : (win0_3.blk t).view.emb (ix2 0 d) = (ix2 0 (col t d) : S1x9216.Idx) := by
    funext a
    apply Fin.ext
    match a with
    | ⟨0, _⟩ => blk_simp [index3]; try rfl
    | ⟨1, _⟩ =>
      blk_simp [index3]
      show (colBlk (grid0.coords t)).val * 1024 + d.val = 1024 * (colBlk (grid0.coords t)).val + d.val; omega
  rw [h]
  refine Eq.trans (congrFun (scale_array m c) _) (scale_apply (col t d))

/-- The gates' columns, padded. -/
theorem gate_columns (w : FVec Ideal S1024x9224 .f32) (k : Fin 1024) (l : Fin 128) :
    (truncf .bf16 (pad S1024x128 ![0, 0] ![0, 120] ![0, 0] (extractStridedSlice S1024x8 ![0, 5120] w slices_S1024x9224_S1024x8_0_5120 : FVec Ideal S1024x8 .f32)
        (sitofp .f32 (constantI S_ 32 0#32) : FVec Ideal S_ .f32) pads_S1024x8_S1024x128_000_01200 h_S_ : FVec Ideal S1024x128 .f32) bitsLt_bf16_f32 : FVec Ideal S1024x128 .bf16) (ix2 k l)
      = gateColumn (fun k e => w (ix2 k e)) k l := by
  have hl := l.isLt
  unfold gateColumn
  by_cases h : l.val < 8
  · rw [dif_pos h]
    pointwise
    rw [dif_pos h]
  · rw [dif_neg h]
    pointwise
    rw [dif_neg h]
    exact zero_word

theorem iblk4_apply (k : Fin 1024) (l : Fin 128) : (iblk m c 4 t : Vec Ideal S1024x128 .bf16) (ix2 k l)
    = gateColumn (fun k e => (m ((c : Thread nD τ).loc main_arg2) : Vec Ideal S1024x9224 .f32) (ix2 k e)) k l := by
  blk_simp [iblk]
  have h : (win0_4.blk t).view.emb (ix2 k l) = (ix2 k l : S1024x128.Idx) := by
    funext a
    apply Fin.ext
    match a with
    | ⟨0, _⟩ => blk_simp; show 0 * 1024 + k.val = k.val; omega
    | ⟨1, _⟩ => blk_simp; show 0 * 128 + l.val = l.val; omega
  rw [h]
  exact gate_columns (m ((c : Thread nD τ).loc main_arg2)) k l

/-- The gates' bias, padded. -/
theorem gate_bias (bi bf : FVec Ideal S4 .f32) (l : Fin 128) :
    (broadcastInDim S1x128 ![1] bcast_S128_S1x128_1 (pad S128 ![0] ![120] ![0] (concatenate S8 0 [⟨S4, bi⟩, ⟨S4, bf⟩] concatenates_S4_S4_S8_d0 : FVec Ideal S8 .f32)
        (sitofp .f32 (constantI S_ 32 0#32) : FVec Ideal S_ .f32) pads_S8_S128_01200 h_S_ : FVec Ideal S128 .f32) : FVec Ideal S1x128 .f32) (ix2 0 l)
      = gateBias (fun e => bi (ix1 e)) (fun e => bf (ix1 e)) l := by
  have hl := l.isLt
  unfold gateBias
  by_cases h : l.val < 4
  · rw [dif_pos h]
    pointwise
    rw [dif_pos (by omega), dif_pos h]
  · rw [dif_neg h]
    by_cases h' : l.val < 8
    · rw [dif_pos h']
      pointwise
      rw [dif_pos h', dif_neg h]
    · rw [dif_neg h']
      pointwise
      rw [dif_neg h']
      exact zero_word

theorem iblk5_apply (l : Fin 128) : (iblk m c 5 t : Vec Ideal S1x128 .f32) (ix2 0 l)
    = gateBias (fun e => (m ((c : Thread nD τ).loc main_arg3) : Vec Ideal S4 .f32) (ix1 e)) (fun e => (m ((c : Thread nD τ).loc main_arg4) : Vec Ideal S4 .f32) (ix1 e)) l := by
  blk_simp [iblk]
  have h : (win0_5.blk t).view.emb (ix2 0 l) = (ix2 0 l : S1x128.Idx) := by
    funext a
    apply Fin.ext
    match a with
    | ⟨0, _⟩ => blk_simp; rfl
    | ⟨1, _⟩ => blk_simp; show 0 * 128 + l.val = l.val; omega
  rw [h]
  exact gate_bias (m ((c : Thread nD τ).loc main_arg3)) (m ((c : Thread nD τ).loc main_arg4)) l

/-- The two results as arrays, from the argument arrays. -/
def result (x : Vec Ideal S32768x1024 .f32) (g : Vec Ideal S1024 .f32) (w : Vec Ideal S1024x9224 .f32) : Vec Ideal S32768x9216 .bf16 := fun y =>
  entry (fun r k => x (ix2 r k)) (fun e => g (ix1 e)) (fun k e => w (ix2 k e)) (y 0) (y 1)

def gateResult (x : Vec Ideal S32768x1024 .f32) (g : Vec Ideal S1024 .f32) (w : Vec Ideal S1024x9224 .f32) (bi bf : Vec Ideal S4 .f32) :
    Vec Ideal S32768x128 .f32 := fun y =>
  gateEntry (fun r k => x (ix2 r k)) (fun e => g (ix1 e)) (fun k e => w (ix2 k e)) (fun e => bi (ix1 e)) (fun e => bf (ix1 e)) (y 0) (y 1)

/-- The normalised rows in the scratch array. -/
theorem hidden_apply (r k : Fin 1024) : (Kernel4Ideal.InProj.hidden m c t.val t.isLt : FVec Ideal S1024x1024 .bf16) (ix2 r k)
    = Norm.norm (fun e => (m ((c : Thread nD τ).loc main_arg0) : Vec Ideal S32768x1024 .f32) (ix2 (row t r) e))
        (fun e => (m ((c : Thread nD τ).loc main_arg1) : Vec Ideal S1024 .f32) (ix1 e)) k := by
  unfold Kernel4Ideal.InProj.hidden
  rw [pay2_apply]
  simp only [iblk0_apply, iblk1_apply, row_start]

theorem gates_apply (r : Fin 1024) (l : Fin 128) : (gates m c t.val t.isLt : FVec Ideal S1024x128 .f32) (ix2 r l)
    = gateResult (m ((c : Thread nD τ).loc main_arg0)) (m ((c : Thread nD τ).loc main_arg1)) (m ((c : Thread nD τ).loc main_arg2))
        (m ((c : Thread nD τ).loc main_arg3)) (m ((c : Thread nD τ).loc main_arg4)) (ix2 (row t r) l) := by
  unfold gates
  rw [pay3_apply]
  simp only [iblk0_apply, iblk1_apply, iblk4_apply, iblk5_apply, row_start]
  rfl

theorem arr_eq : (dats m 0 c).arrAt 6 cfg0.N
    = result (m ((c : Thread nD τ).loc main_arg0)) (m ((c : Thread nD τ).loc main_arg1)) (m ((c : Thread nD τ).loc main_arg2)) := by
  refine (dats m 0 c).arrAt_eq_of_covers 6 _ ((cfg0.win 6).covers_of_indexMap_surj rfl (by decide) fun β => ?_) fun t hf y => ?_
  · have b0 : (β 0).val < 32 := (β 0).isLt
    have b1 : (β 1).val < 9 := (β 1).isLt
    refine ⟨fun | ⟨0, _⟩ => ⟨(β 0).val, b0⟩ | ⟨1, _⟩ => ⟨(β 1).val, b1⟩, fun a => ?_⟩
    match a with
    | ⟨0, _⟩ => exact word32 ⟨(β 0).val, b0⟩
    | ⟨1, _⟩ => exact word9 ⟨(β 1).val, b1⟩
  blk_simp
  rw [after6]
  obtain ⟨r, d, hy⟩ : ∃ (r d : Fin 1024), y = (ix2 r d : S1024x1024.Idx) :=
    ⟨⟨(y 0).val, (y 0).isLt⟩, ⟨(y 1).val, (y 1).isLt⟩, by
      funext a
      match a with
      | ⟨0, _⟩ => rfl
      | ⟨1, _⟩ => rfl⟩
  subst hy
  have e : (win0_6.blk t).view.emb (ix2 r d) = (ix2 (row t r) (col t d) : S32768x9216.Idx) := by
    funext a
    apply Fin.ext
    match a with
    | ⟨0, _⟩ =>
      blk_simp [index6]
      show (rowBlk (grid0.coords t)).val * 1024 + r.val = 1024 * (rowBlk (grid0.coords t)).val + r.val; omega
    | ⟨1, _⟩ =>
      blk_simp [index6]
      show (colBlk (grid0.coords t)).val * 1024 + d.val = 1024 * (colBlk (grid0.coords t)).val + d.val; omega
  show _ = result _ _ _ ((win0_6.blk t).view.emb (ix2 r d))
  rw [e]
  refine (pay4_apply _ _ _ r d).trans ?_
  simp only [hidden_apply, iblk2_apply, iblk3_apply]
  rfl

theorem gates_eq : (dats m 0 c).arrAt 7 cfg0.N
    = gateResult (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ ((cfg0.win 7).covers_of_indexMap_surj rfl (by decide) fun β => ?_) fun t hf y => ?_
  · have b0 : (β 0).val < 32 := (β 0).isLt
    have b1 : (β 1).val < 1 := (β 1).isLt
    refine ⟨fun | ⟨0, _⟩ => ⟨(β 0).val, b0⟩ | ⟨1, _⟩ => (⟨0, by decide⟩ : Fin 9), fun a => ?_⟩
    match a with
    | ⟨0, _⟩ => exact word32 ⟨(β 0).val, b0⟩
    | ⟨1, _⟩ => show 0 = (β 1).val; omega
  blk_simp
  rw [after7]
  obtain ⟨r, l, hy⟩ : ∃ (r : Fin 1024) (l : Fin 128), y = (ix2 r l : S1024x128.Idx) :=
    ⟨⟨(y 0).val, (y 0).isLt⟩, ⟨(y 1).val, (y 1).isLt⟩, by
      funext a
      match a with
      | ⟨0, _⟩ => rfl
      | ⟨1, _⟩ => rfl⟩
  subst hy
  have e : (win0_7.blk t).view.emb (ix2 r l) = (ix2 (row t r) l : S32768x128.Idx) := by
    funext a
    apply Fin.ext
    match a with
    | ⟨0, _⟩ =>
      blk_simp [index7]
      show (rowBlk (grid0.coords t)).val * 1024 + r.val = 1024 * (rowBlk (grid0.coords t)).val + r.val; omega
    | ⟨1, _⟩ =>
      blk_simp [index7]
  show _ = gateResult _ _ _ _ _ ((win0_7.blk t).view.emb (ix2 r l))
  rw [e]
  exact gates_apply m c t r l

end

end Cert.InProj

end
-- ==== Proof.InEquation.lean ====
/- The input projection: what the reference computes, and that kernel and reference end with the same two arrays. -/
module

public import proofs.«01_k».proof.Defs
public import proofs.«01_k».proof.Proof.InArray
public import proofs.«01_k».proof.Proof.Gen.Reference4Ideal.Run
public import proofs.«01_k».proof.Proof.Gen.Reference4Ideal.Read

@[expose] public section

set_option maxRecDepth 16384

noncomputable section

namespace Cert.InProj

open Idealize.ShloMosaic Idealize.SL.Sem

section Reference
open Cert.Reference4Ideal Cert.Reference4Ideal.Read

variable (x : Vec Ideal Cert.Kernel4Ideal.S32768x1024 .f32) (g : Vec Ideal Cert.Kernel4Ideal.S1024 .f32)
  (w : Vec Ideal Cert.Kernel4Ideal.S1024x9224 .f32) (bi bf : Vec Ideal Cert.Kernel4Ideal.S4 .f32)

/-- The reference's rows after the norm. -/
theorem rows_apply (r : Fin 32768) (k : Fin 1024) : (val_main_v12 (F := Ideal) x g : FVec Ideal S32768x1024 .f32) (ix2 r k)
    = Norm.norm (fun e => x (ix2 r e)) (fun e => g (ix1 e)) k := by
  unfold Norm.norm
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- The reference's product, at column `e` of the projection. -/
theorem product_apply (r : Fin 32768) (e : Fin 9224) : (val_main_v13 (F := Ideal) x g w : FVec Ideal S32768x9224 .f32) (ix2 r e)
    = ∑ k : Fin 1024, Norm.norm (fun e => x (ix2 r e)) (fun e => g (ix1 e)) k * w (ix2 k e) := by
  have hl : ∀ k : Fin 1024, lidx_main_v13 (ix2 r e) k = ix2 r k := fun k => funext fun i => match i with | ⟨0, _⟩ => rfl | ⟨1, _⟩ => rfl
  have hr : ∀ k : Fin 1024, ridx_main_v13 (ix2 r e) k = ix2 k e := fun k => funext fun i => match i with | ⟨0, _⟩ => rfl | ⟨1, _⟩ => rfl
  rw [val_main_v13_apply]
  simp only [hl, hr, rows_apply]

/-- The reference's main columns: those of the product but the gates', the queries' scaled. -/
theorem main_apply (r : Fin 32768) (d : Fin 9216) : (val_main_v29 (F := Ideal) x g w : FVec Ideal S32768x9216 .bf16) (ix2 r d)
    = (val_main_v13 (F := Ideal) x g w : FVec Ideal S32768x9224 .f32) (ix2 r (source d)) * scale d := by
  have hd := d.isLt
  generalize hp : val_main_v13 (F := Ideal) x g w = p
  unfold source scale
  by_cases h : d.val < 5120
  · rw [dif_pos h, if_neg (by omega), mul_one]
    pointwise [val_main_v29, val_main_v19, val_main_v18, val_main_v17, val_main_v16, val_main_v15, val_main_v14, val_main_cst_2, hp]
    rw [dif_pos h]
  · rw [dif_neg h]
    by_cases h' : d.val < 6144
    · rw [if_pos (by omega)]
      pointwise [val_main_v29, val_main_v19, val_main_v18, val_main_v17, val_main_v16, val_main_v15, val_main_v14, val_main_cst_2, hp]
      rw [dif_neg h, dif_pos (by omega)]
      refine congrArg (fun e => p (ix2 r e) * _) (Fin.ext ?_)
      show 5128 + (d.val - 5120) = d.val + 8
      omega
    · rw [if_neg (by omega), mul_one]
      pointwise [val_main_v29, val_main_v19, val_main_v18, val_main_v17, val_main_v16, val_main_v15, val_main_v14, val_main_cst_2, hp]
      rw [dif_neg h, dif_neg (by omega)]
      refine congrArg (fun e => p (ix2 r e)) (Fin.ext ?_)
      show 6152 + (d.val - 5120 - 1024) = d.val + 8
      omega

/-- The reference's gates: the product's eight columns and their bias, and zeros after them. -/
theorem gates_reference (r : Fin 32768) (l : Fin 128) : (val_main_v30 (F := Ideal) x g w bi bf : FVec Ideal S32768x128 .f32) (ix2 r l)
    = if h : l.val < 8 then (val_main_v13 (F := Ideal) x g w : FVec Ideal S32768x9224 .f32) (ix2 r ⟨5120 + l.val, by omega⟩)
        + gateBias (fun e => bi (ix1 e)) (fun e => bf (ix1 e)) l else 0 := by
  have hl := l.isLt
  generalize hp : val_main_v13 (F := Ideal) x g w = p
  unfold gateBias
  by_cases h : l.val < 8
  · rw [dif_pos h]
    by_cases h' : l.val < 4
    · rw [dif_pos h']
      pointwise [val_main_v30, val_main_v28, val_main_v27, val_main_v26, val_main_v25, val_main_v24, val_main_v23, val_main_v22, val_main_v21,
        val_main_v20, val_main_call0_v0, val_main_c, hp]
      rw [dif_pos h, dif_pos h']
    · rw [dif_neg h', dif_pos h]
      pointwise [val_main_v30, val_main_v28, val_main_v27, val_main_v26, val_main_v25, val_main_v24, val_main_v23, val_main_v22, val_main_v21,
        val_main_v20, val_main_call0_v0, val_main_c, hp]
      rw [dif_pos h, dif_neg h']
      refine congrArg (fun e => p (ix2 r e) + _) (Fin.ext ?_)
      show 5124 + (l.val - 4) = 5120 + l.val
      omega
  · rw [dif_neg h]
    pointwise [val_main_v30, val_main_v28, val_main_v27, val_main_v26, val_main_v25, val_main_v24, val_main_v23, val_main_v22, val_main_v21,
      val_main_v20, val_main_call0_v0, val_main_c, hp]
    rw [dif_neg h]
    exact zero_word

/-- The reference's first result is the kernel's. -/
theorem reference_eq : val_main_v29 (F := Ideal) x g w = result x g w := by
  funext i
  obtain ⟨r, d, rfl⟩ : ∃ (r : Fin 32768) (d : Fin 9216), i = ix2 r d :=
    ⟨i 0, i 1, funext fun k => match k with | ⟨0, _⟩ => rfl | ⟨1, _⟩ => rfl⟩
  refine (main_apply x g w r d).trans ?_
  rw [product_apply]
  rfl

/-- And so is the second. -/
theorem reference_gates_eq : val_main_v30 (F := Ideal) x g w bi bf = gateResult x g w bi bf := by
  funext i
  obtain ⟨r, l, rfl⟩ : ∃ (r : Fin 32768) (l : Fin 128), i = ix2 r l :=
    ⟨i 0, i 1, funext fun k => match k with | ⟨0, _⟩ => rfl | ⟨1, _⟩ => rfl⟩
  refine (gates_reference x g w bi bf r l).trans ?_
  show _ = gateEntry _ _ _ _ _ r l
  unfold gateEntry gateColumn
  by_cases h : l.val < 8
  · simp only [dif_pos h]
    rw [product_apply]
  · have h' : ¬l.val < 4 := by omega
    unfold gateBias
    simp only [dif_neg h, dif_neg h', mul_zero, Finset.sum_const_zero, add_zero]

end Reference

/-- The reference is host code only: it uses no semaphore, and its arguments stay. -/
theorem reference_frame : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- Kernel and reference, from arguments that agree, end with equal results. -/
theorem equation : Cert.algebraic_Kernel4Ideal_Reference4Ideal := by
  intro m g m' g' hpre hagree
  refine ⟨fun c => result (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)),
    fun c => gateResult (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)), ?_, ?_⟩
  · refine (θ_run Cert.Kernel4Ideal.defs _ _).mono (fun r h c => ⟨?_, ?_, h.2.1 c⟩)
      (θ_run_and (Cert.Kernel4Ideal.InProj.run_main (F := Ideal) m g) (Cert.Kernel4Ideal.InProj.frame (F := Ideal) m g))
    · exact ((h.1 c).1 6).trans (arr_eq m c)
    · exact ((h.1 c).1 7).trans (gates_eq m c)
  · refine (θ_run Cert.Reference4Ideal.defs _ _).mono (fun r h c => ⟨(h c).1.trans ?_, (h c).2.1.trans ?_, (h c).2.2⟩)
      (Cert.Reference4Ideal.Value.run (F := Ideal) m' g')
    · obtain ⟨h0, h1, h2, h3, h4⟩ := hagree c
      rw [Cert.Reference4Ideal.Read.val_main_v29_eq, h0, h1, h2]
      exact reference_eq _ _ _
    · obtain ⟨h0, h1, h2, h3, h4⟩ := hagree c
      rw [Cert.Reference4Ideal.Read.val_main_v30_eq, h0, h1, h2, h3, h4]
      exact reference_gates_eq _ _ _ _ _

end Cert.InProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.SbEquation
public import proofs.«01_k».proof.Proof.OddEquation
public import proofs.«01_k».proof.Proof.OutEquation
public import proofs.«01_k».proof.Proof.InFrame
public import proofs.«01_k».proof.Proof.InFrameIdeal
public import proofs.«01_k».proof.Proof.InEquation
public import Idealize.ShloMosaic.Adequacy
public import Idealize.ShloMosaic.Init

@[expose] public section

noncomputable section

namespace Cert.Proof

open Idealize.ShloMosaic Idealize.SL.Sem Cert.Kernel

/-- The claims on the stick-breaking attention, on the odd layer, on the output projection and on the input projection: of
    each the frames of its three programs, the idealization (no operation was rewritten), and the equality with the reference. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Sb.pre_facts,
  fun m ρ _ => Cert.Kernel.Gen.frame m ρ,
  fun m ρ _ => Cert.KernelIdeal.Gen.frame m ρ,
  fun m ρ _ => Cert.KernelIdeal.Gen.frame m ρ,
  Cert.Sb.reference_frame,
  fun m ρ _ => Cert.Sb.reference_frame m ρ trivial,
  fun m ρ _ => Cert.Kernel2.Gen.frame m ρ,
  fun m ρ _ => Cert.Kernel2Ideal.Gen.frame m ρ,
  Cert.Odd.reference_frame,
  fun m ρ _ => Cert.Kernel3.Gen.frame m ρ,
  fun m ρ _ => Cert.Kernel3Ideal.Gen.frame m ρ,
  Cert.OutProj.reference_frame,
  fun m ρ _ => Cert.Kernel4.InProj.frame m ρ,
  fun m ρ _ => Cert.Kernel4Ideal.InProj.frame m ρ,
  Cert.InProj.reference_frame,
  trivial,
  Cert.Sb.equation,
  trivial,
  Cert.Odd.equation,
  trivial,
  Cert.OutProj.equation,
  trivial,
  Cert.InProj.equation⟩

end Cert.Proof

end
